-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v22_6)) (v7 : (c : Dev Cert.Kernel2Ideal.nD) → Buf (Elt Ideal) ((c.tc : Thread Cert.Kernel2Ideal.nD Cert.Kernel2Ideal.τ).loc Cert.Kernel2Ideal.main_v22_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v22_6) = v6 c
          ∧ r.2.mem ((c.tc : Thread Cert.Kernel2Ideal.nD Cert.Kernel2Ideal.τ).loc Cert.Kernel2Ideal.main_v22_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_v49) = v4 c
          ∧ r.2.mem ((c.tc : Thread Cert.Reference2Ideal.nD Cert.Reference2Ideal.τ).loc Cert.Reference2Ideal.main_v51) = v5 c
          ∧ r.2.mem ((c.tc : Thread Cert.Reference2Ideal.nD Cert.Reference2Ideal.τ).loc Cert.Reference2Ideal.main_v53) = v6 c
          ∧ r.2.mem ((c.tc : Thread Cert.Reference2Ideal.nD Cert.Reference2Ideal.τ).loc Cert.Reference2Ideal.main_v55) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S32768x1024 : Shape := ⟨2, ![32768, 1024]⟩
abbrev S1024x5632 : Shape := ⟨2, ![1024, 5632]⟩
abbrev S2816x1024 : Shape := ⟨2, ![2816, 1024]⟩
abbrev S2x512x1024 : Shape := ⟨3, ![2, 512, 1024]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 15
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S32768x1024, .f32⟩
  | .hbm, ⟨6, _⟩ => ⟨S1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S32768x1024, .f32⟩
  | .hbm, ⟨14, _⟩ => ⟨S4x8192x1024, .f32⟩
  | .local _ .vmem, ⟨0, _⟩ => ⟨S2x512x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S2x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_scoped0 : Ref sig .tc := ⟨.vmem, 0, rfl⟩
abbrev cc0_scoped2 : Ref sig .tc := ⟨.vmem, 1, rfl⟩
abbrev cc0_scoped3 : Ref sig .tc := ⟨.vmem, 2, rfl⟩
abbrev cc0_scoped4 : Ref sig .tc := ⟨.vmem, 3, rfl⟩
abbrev cc0_scoped5 : Ref sig .tc := ⟨.vmem, 4, rfl⟩
abbrev cc0_scoped6 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_16_r0 : BitVec 32 := 0#32
  let c2_i32_r0 : BitVec 32 := 2#32
  let v15_r0 : BitVec 32 := Scalar.remui c0_i32_16_r0 c2_i32_r0
  ![v15_r0.toNat]
def k0_off2 : Fin 3 → Nat :=
  let c0_i32_16_r0 : BitVec 32 := 0#32
  let c2_i32_r0 : BitVec 32 := 2#32
  let v15_r0 : BitVec 32 := Scalar.remui c0_i32_16_r0 c2_i32_r0
  let c0_i32_17_r0 : BitVec 32 := 0#32
  let c0_i32_18_r0 : BitVec 32 := 0#32
  ![v15_r0.toNat, 0, 0]
@[reducible] def k0_t1_loop : Scf.Loop 32 :=
  let c0_i32_35_r0 : BitVec 32 := 0#32
  let c64_i32_36_r0 : BitVec 32 := 64#32
  let v22_r0 : BitVec 32 := Scalar.addi c0_i32_35_r0 c64_i32_36_r0
  let c1_i32_37_r0 : BitVec 32 := 1#32
  ⟨c0_i32_35_r0, v22_r0, c1_i32_37_r0⟩
def k0_off3 (arg7_r0 : BitVec 32) : Fin 1 → Nat :=
  let c2_i32_194_r0 : BitVec 32 := 2#32
  let v315_r0 : BitVec 32 := Scalar.remui arg7_r0 c2_i32_194_r0
  ![v315_r0.toNat]
def k0_cond1 (k0_t1 : Fin k0_t1_loop.trips) (arg15_r0 : BitVec 32) : BitVec 1 :=
  let c0_i32_65_r0 : BitVec 32 := 0#32
  let v53_r0 : BitVec 32 := Scalar.addi arg15_r0 c0_i32_65_r0
  let true_72_r0 : BitVec 1 := 1#1
  let c1_i32_71_r0 : BitVec 32 := 1#32
  let v59_r0 : BitVec 32 := Scalar.addi arg15_r0 c1_i32_71_r0
  let v60_r0 : BitVec 32 := Scalar.select true_72_r0 v59_r0 arg15_r0
  let c64_i32_73_r0 : BitVec 32 := 64#32
  let v61_r0 : BitVec 1 := Scalar.cmpi .eq v60_r0 c64_i32_73_r0
  let c0_i32_74_r0 : BitVec 32 := 0#32
  let v62_r0 : BitVec 32 := Scalar.select v61_r0 c0_i32_74_r0 v60_r0
  let c0_i32_75_r0 : BitVec 32 := 0#32
  let v63_r0 : BitVec 32 := Scalar.addi v62_r0 c0_i32_75_r0
  let v69_r0 : BitVec 1 := Scalar.cmpi .ne v53_r0 v63_r0
  let c0_i32_35_r0 : BitVec 32 := 0#32
  let c1_i32_37_r0 : BitVec 32 := 1#32
  let arg6_r0 : BitVec 32 := Scf.iv c0_i32_35_r0 c1_i32_37_r0 k0_t1
  let c63_i32_81_r0 : BitVec 32 := 63#32
  let v70_r0 : BitVec 1 := Scalar.cmpi .sge arg6_r0 c63_i32_81_r0
  let true_82_r0 : BitVec 1 := 1#1
  let v71_r0 : BitVec 1 := Scalar.xori v70_r0 true_82_r0
  let v72_r0 : BitVec 1 := Scalar.andi v69_r0 v71_r0
  let true_83_r0 : BitVec 1 := 1#1
  let v73_r0 : BitVec 1 := Scalar.andi v72_r0 true_83_r0
  let v74_r0 : BitVec 32 := Scalar.extui v73_r0
  let c0_i32_84_r0 : BitVec 32 := 0#32
  let v75_r0 : BitVec 1 := Scalar.cmpi .ne v74_r0 c0_i32_84_r0
  v75_r0

def k0_off4 (arg7_r0 : BitVec 32) : Fin 3 → Nat :=
  let c2_i32_194_r0 : BitVec 32 := 2#32
  let v315_r0 : BitVec 32 := Scalar.remui arg7_r0 c2_i32_194_r0
  let c0_i32_196_r0 : BitVec 32 := 0#32
  let c0_i32_197_r0 : BitVec 32 := 0#32
  ![v315_r0.toNat, 0, 0]
def k0_off5 (arg15_r0 : BitVec 32) : Fin 2 → Nat :=
  let c512_i32_195_r0 : BitVec 32 := 512#32
  let true_72_r0 : BitVec 1 := 1#1
  let c1_i32_71_r0 : BitVec 32 := 1#32
  let v59_r0 : BitVec 32 := Scalar.addi arg15_r0 c1_i32_71_r0
  let v60_r0 : BitVec 32 := Scalar.select true_72_r0 v59_r0 arg15_r0
  let c64_i32_73_r0 : BitVec 32 := 64#32
  let v61_r0 : BitVec 1 := Scalar.cmpi .eq v60_r0 c64_i32_73_r0
  let c0_i32_74_r0 : BitVec 32 := 0#32
  let v62_r0 : BitVec 32 := Scalar.select v61_r0 c0_i32_74_r0 v60_r0
  let c0_i32_75_r0 : BitVec 32 := 0#32
  let v63_r0 : BitVec 32 := Scalar.addi v62_r0 c0_i32_75_r0
  let v316_r0 : BitVec 32 := Scalar.muli c512_i32_195_r0 v63_r0
  let c0_i32_198_r0 : BitVec 32 := 0#32
  ![v316_r0.toNat, 0]
def k0_off6 (arg8_r0 : BitVec 32) : Fin 1 → Nat :=
  let c2_i32_195_r0 : BitVec 32 := 2#32
  let v316_r0 : BitVec 32 := Scalar.remui arg8_r0 c2_i32_195_r0
  ![v316_r0.toNat]
def k0_cond2 (k0_t1 : Fin k0_t1_loop.trips) (arg15_r0 : BitVec 32) : BitVec 1 :=
  let c0_i32_65_r0 : BitVec 32 := 0#32
  let v53_r0 : BitVec 32 := Scalar.addi arg15_r0 c0_i32_65_r0
  let true_67_r0 : BitVec 1 := 1#1
  let c1_i32_66_r0 : BitVec 32 := 1#32
  let v54_r0 : BitVec 32 := Scalar.subi arg15_r0 c1_i32_66_r0
  let v55_r0 : BitVec 32 := Scalar.select true_67_r0 v54_r0 arg15_r0
  let c_m1_i32_68_r0 : BitVec 32 := 4294967295#32
  let v56_r0 : BitVec 1 := Scalar.cmpi .eq v55_r0 c_m1_i32_68_r0
  let c63_i32_69_r0 : BitVec 32 := 63#32
  let v57_r0 : BitVec 32 := Scalar.select v56_r0 c63_i32_69_r0 v55_r0
  let c0_i32_70_r0 : BitVec 32 := 0#32
  let v58_r0 : BitVec 32 := Scalar.addi v57_r0 c0_i32_70_r0
  let v83_r0 : BitVec 1 := Scalar.cmpi .ne v53_r0 v58_r0
  let c0_i32_35_r0 : BitVec 32 := 0#32
  let c1_i32_37_r0 : BitVec 32 := 1#32
  let arg6_r0 : BitVec 32 := Scf.iv c0_i32_35_r0 c1_i32_37_r0 k0_t1
  let c0_i32_63_r0 : BitVec 32 := 0#32
  let v51_r0 : BitVec 1 := Scalar.cmpi .eq arg6_r0 c0_i32_63_r0
  let v84_r0 : BitVec 1 := Scalar.ori v83_r0 v51_r0
  let c0_i32_89_r0 : BitVec 32 := 0#32
  let v85_r0 : BitVec 1 := Scalar.cmpi .sge arg6_r0 c0_i32_89_r0
  let v86_r0 : BitVec 1 := Scalar.andi v84_r0 v85_r0
  let v87_r0 : BitVec 32 := Scalar.extui v86_r0
  let c0_i32_90_r0 : BitVec 32 := 0#32
  let v88_r0 : BitVec 1 := Scalar.cmpi .ne v87_r0 c0_i32_90_r0
  v88_r0

def k0_off7 (arg8_r0 : BitVec 32) : Fin 3 → Nat :=
  let c2_i32_195_r0 : BitVec 32 := 2#32
  let v316_r0 : BitVec 32 := Scalar.remui arg8_r0 c2_i32_195_r0
  let c0_i32_196_r0 : BitVec 32 := 0#32
  let c0_i32_197_r0 : BitVec 32 := 0#32
  ![v316_r0.toNat, 0, 0]
def k0_off8 (arg15_r0 : BitVec 32) : Fin 2 → Nat :=
  let c512_i32_194_r0 : BitVec 32 := 512#32
  let c0_i32_65_r0 : BitVec 32 := 0#32
  let v53_r0 : BitVec 32 := Scalar.addi arg15_r0 c0_i32_65_r0
  let v315_r0 : BitVec 32 := Scalar.muli c512_i32_194_r0 v53_r0
  let c0_i32_198_r0 : BitVec 32 := 0#32
  ![v315_r0.toNat, 0]
def k0_off9 (arg8_r0 : BitVec 32) : Fin 3 → Nat :=
  let c2_i32_93_r0 : BitVec 32 := 2#32
  let v95_r0 : BitVec 32 := Scalar.remui arg8_r0 c2_i32_93_r0
  let v97_r0 : Index := Scalar.indexCast v95_r0
  let c0_r0 : Index := 0#32
  let c0_95_r0 : Index := 0#32
  ![v97_r0.toNat, 0, 0]

def k0_chk2 (arg8_r0 : BitVec 32) : Prop :=
  (∀ a, (k0_off9 arg8_r0) a + S1x512x1024.size a ≤ S2x512x1024.size a)
theorem k0_off9_inb : ∀ (arg8_r0 : BitVec 32) (k0_hw2 : k0_chk2 arg8_r0), ∀ a, (k0_off9 arg8_r0) a + S1x512x1024.size a ≤ S2x512x1024.size a := fun arg8_r0 k0_hw2 => k0_hw2

def k0_off10 (arg13_r0 : BitVec 32) : Fin 3 → Nat :=
  let c2_i32_94_r0 : BitVec 32 := 2#32
  let v96_r0 : BitVec 32 := Scalar.remui arg13_r0 c2_i32_94_r0
  let v265_r0 : Index := Scalar.indexCast v96_r0
  let c0_168_r0 : Index := 0#32
  let c0_169_r0 : Index := 0#32
  ![v265_r0.toNat, 0, 0]

def k0_chk3 (arg13_r0 : BitVec 32) : Prop :=
  (∀ a, (k0_off10 arg13_r0) a + S1x512x1024.size a ≤ S2x512x1024.size a)
theorem k0_off10_inb : ∀ (arg13_r0 : BitVec 32) (k0_hw3 : k0_chk3 arg13_r0), ∀ a, (k0_off10 arg13_r0) a + S1x512x1024.size a ≤ S2x512x1024.size a := fun arg13_r0 k0_hw3 => k0_hw3

def k0_off11 (arg13_r0 : BitVec 32) : Fin 1 → Nat :=
  let c2_i32_194_r0 : BitVec 32 := 2#32
  let v315_r0 : BitVec 32 := Scalar.remui arg13_r0 c2_i32_194_r0
  ![v315_r0.toNat]
def k0_cond5 (k0_t1 : Fin k0_t1_loop.trips) (arg15_r0 : BitVec 32) : BitVec 1 :=
  let c0_i32_65_r0 : BitVec 32 := 0#32
  let v53_r0 : BitVec 32 := Scalar.addi arg15_r0 c0_i32_65_r0
  let true_72_r0 : BitVec 1 := 1#1
  let c1_i32_71_r0 : BitVec 32 := 1#32
  let v59_r0 : BitVec 32 := Scalar.addi arg15_r0 c1_i32_71_r0
  let v60_r0 : BitVec 32 := Scalar.select true_72_r0 v59_r0 arg15_r0
  let c64_i32_73_r0 : BitVec 32 := 64#32
  let v61_r0 : BitVec 1 := Scalar.cmpi .eq v60_r0 c64_i32_73_r0
  let c0_i32_74_r0 : BitVec 32 := 0#32
  let v62_r0 : BitVec 32 := Scalar.select v61_r0 c0_i32_74_r0 v60_r0
  let c0_i32_75_r0 : BitVec 32 := 0#32
  let v63_r0 : BitVec 32 := Scalar.addi v62_r0 c0_i32_75_r0
  let v274_r0 : BitVec 1 := Scalar.cmpi .ne v53_r0 v63_r0
  let c0_i32_35_r0 : BitVec 32 := 0#32
  let c1_i32_37_r0 : BitVec 32 := 1#32
  let arg6_r0 : BitVec 32 := Scf.iv c0_i32_35_r0 c1_i32_37_r0 k0_t1
  let c63_i32_64_r0 : BitVec 32 := 63#32
  let v52_r0 : BitVec 1 := Scalar.cmpi .eq arg6_r0 c63_i32_64_r0
  let v275_r0 : BitVec 1 := Scalar.ori v274_r0 v52_r0
  let v276_r0 : BitVec 32 := Scalar.extui v275_r0
  let c0_i32_171_r0 : BitVec 32 := 0#32
  let v277_r0 : BitVec 1 := Scalar.cmpi .ne v276_r0 c0_i32_171_r0
  v277_r0

def k0_off12 (arg15_r0 : BitVec 32) : Fin 2 → Nat :=
  let c512_i32_195_r0 : BitVec 32 := 512#32
  let c0_i32_65_r0 : BitVec 32 := 0#32
  let v53_r0 : BitVec 32 := Scalar.addi arg15_r0 c0_i32_65_r0
  let v316_r0 : BitVec 32 := Scalar.muli c512_i32_195_r0 v53_r0
  let c0_i32_196_r0 : BitVec 32 := 0#32
  ![v316_r0.toNat, 0]
def k0_off13 (arg13_r0 : BitVec 32) : Fin 3 → Nat :=
  let c2_i32_194_r0 : BitVec 32 := 2#32
  let v315_r0 : BitVec 32 := Scalar.remui arg13_r0 c2_i32_194_r0
  let c0_i32_197_r0 : BitVec 32 := 0#32
  let c0_i32_198_r0 : BitVec 32 := 0#32
  ![v315_r0.toNat, 0, 0]
def k0_off14 (arg14_r0 : BitVec 32) : Fin 1 → Nat :=
  let c2_i32_194_r0 : BitVec 32 := 2#32
  let v315_r0 : BitVec 32 := Scalar.remui arg14_r0 c2_i32_194_r0
  ![v315_r0.toNat]
def k0_cond7 (k0_t1 : Fin k0_t1_loop.trips) (arg15_r0 : BitVec 32) : BitVec 1 :=
  let c0_i32_65_r0 : BitVec 32 := 0#32
  let v53_r0 : BitVec 32 := Scalar.addi arg15_r0 c0_i32_65_r0
  let true_67_r0 : BitVec 1 := 1#1
  let c1_i32_66_r0 : BitVec 32 := 1#32
  let v54_r0 : BitVec 32 := Scalar.subi arg15_r0 c1_i32_66_r0
  let v55_r0 : BitVec 32 := Scalar.select true_67_r0 v54_r0 arg15_r0
  let c_m1_i32_68_r0 : BitVec 32 := 4294967295#32
  let v56_r0 : BitVec 1 := Scalar.cmpi .eq v55_r0 c_m1_i32_68_r0
  let c63_i32_69_r0 : BitVec 32 := 63#32
  let v57_r0 : BitVec 32 := Scalar.select v56_r0 c63_i32_69_r0 v55_r0
  let c0_i32_70_r0 : BitVec 32 := 0#32
  let v58_r0 : BitVec 32 := Scalar.addi v57_r0 c0_i32_70_r0
  let v287_r0 : BitVec 1 := Scalar.cmpi .ne v53_r0 v58_r0
  let c0_i32_35_r0 : BitVec 32 := 0#32
  let c1_i32_37_r0 : BitVec 32 := 1#32
  let arg6_r0 : BitVec 32 := Scf.iv c0_i32_35_r0 c1_i32_37_r0 k0_t1
  let c0_i32_63_r0 : BitVec 32 := 0#32
  let v51_r0 : BitVec 1 := Scalar.cmpi .eq arg6_r0 c0_i32_63_r0
  let true_177_r0 : BitVec 1 := 1#1
  let v288_r0 : BitVec 1 := Scalar.xori v51_r0 true_177_r0
  let v289_r0 : BitVec 1 := Scalar.andi v287_r0 v288_r0
  let v290_r0 : BitVec 32 := Scalar.extui v289_r0
  let c0_i32_178_r0 : BitVec 32 := 0#32
  let v291_r0 : BitVec 1 := Scalar.cmpi .ne v290_r0 c0_i32_178_r0
  v291_r0

def k0_off15 (arg15_r0 : BitVec 32) : Fin 2 → Nat :=
  let c512_i32_195_r0 : BitVec 32 := 512#32
  let true_67_r0 : BitVec 1 := 1#1
  let c1_i32_66_r0 : BitVec 32 := 1#32
  let v54_r0 : BitVec 32 := Scalar.subi arg15_r0 c1_i32_66_r0
  let v55_r0 : BitVec 32 := Scalar.select true_67_r0 v54_r0 arg15_r0
  let c_m1_i32_68_r0 : BitVec 32 := 4294967295#32
  let v56_r0 : BitVec 1 := Scalar.cmpi .eq v55_r0 c_m1_i32_68_r0
  let c63_i32_69_r0 : BitVec 32 := 63#32
  let v57_r0 : BitVec 32 := Scalar.select v56_r0 c63_i32_69_r0 v55_r0
  let c0_i32_70_r0 : BitVec 32 := 0#32
  let v58_r0 : BitVec 32 := Scalar.addi v57_r0 c0_i32_70_r0
  let v316_r0 : BitVec 32 := Scalar.muli c512_i32_195_r0 v58_r0
  let c0_i32_196_r0 : BitVec 32 := 0#32
  ![v316_r0.toNat, 0]
def k0_off16 (arg14_r0 : BitVec 32) : Fin 3 → Nat :=
  let c2_i32_194_r0 : BitVec 32 := 2#32
  let v315_r0 : BitVec 32 := Scalar.remui arg14_r0 c2_i32_194_r0
  let c0_i32_197_r0 : BitVec 32 := 0#32
  let c0_i32_198_r0 : BitVec 32 := 0#32
  ![v315_r0.toNat, 0, 0]

def k0_chk1 (k0_t1 : Fin k0_t1_loop.trips) (arg7_r0 : BitVec 32) (arg8_r0 : BitVec 32) (arg13_r0 : BitVec 32) (arg14_r0 : BitVec 32) (arg15_r0 : BitVec 32) : Prop :=
  (∀ (k0_h1 : k0_cond1 k0_t1 arg15_r0 = 1#1), ∀ a, (k0_off3 arg7_r0) a + S1.size a ≤ S2.size a) ∧
  (∀ (k0_h1 : k0_cond1 k0_t1 arg15_r0 = 1#1), ∀ a, (k0_off4 arg7_r0) a + S1x512x1024.size a ≤ S2x512x1024.size a) ∧
  (∀ (k0_h1 : k0_cond1 k0_t1 arg15_r0 = 1#1), ∀ a, (k0_off5 arg15_r0) a + S512x1024.size a ≤ S32768x1024.size a) ∧
  (∀ (k0_h2 : k0_cond2 k0_t1 arg15_r0 = 1#1), ∀ a, (k0_off6 arg8_r0) a + S1.size a ≤ S2.size a) ∧
  (∀ (k0_h2 : k0_cond2 k0_t1 arg15_r0 = 1#1), ∀ a, (k0_off7 arg8_r0) a + S1x512x1024.size a ≤ S2x512x1024.size a) ∧
  (∀ (k0_h2 : k0_cond2 k0_t1 arg15_r0 = 1#1), ∀ a, (k0_off8 arg15_r0) a + S512x1024.size a ≤ S32768x1024.size a) ∧
  (∀ (k0_h5 : k0_cond5 k0_t1 arg15_r0 = 1#1), ∀ a, (k0_off11 arg13_r0) a + S1.size a ≤ S2.size a) ∧
  (∀ (k0_h5 : k0_cond5 k0_t1 arg15_r0 = 1#1), ∀ a, (k0_off12 arg15_r0) a + S512x1024.size a ≤ S32768x1024.size a) ∧
  (∀ (k0_h5 : k0_cond5 k0_t1 arg15_r0 = 1#1), ∀ a, (k0_off13 arg13_r0) a + S1x512x1024.size a ≤ S2x512x1024.size a) ∧
  (∀ (k0_h7 : k0_cond7 k0_t1 arg15_r0 = 1#1), ∀ a, (k0_off14 arg14_r0) a + S1.size a ≤ S2.size a) ∧
  (∀ (k0_h7 : k0_cond7 k0_t1 arg15_r0 = 1#1), ∀ a, (k0_off15 arg15_r0) a + S512x1024.size a ≤ S32768x1024.size a) ∧
  (∀ (k0_h7 : k0_cond7 k0_t1 arg15_r0 = 1#1), ∀ a, (k0_off16 arg14_r0) a + S1x512x1024.size a ≤ S2x512x1024.size a)
theorem k0_off3_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h1 : k0_cond1 k0_t1 arg15_r0 = 1#1), ∀ a, (k0_off3 arg7_r0) a + S1.size a ≤ S2.size a := fun k0_t1 arg7_r0 arg8_r0 arg13_r0 arg14_r0 arg15_r0 k0_hw1 k0_h1 => k0_hw1.1 k0_h1
theorem k0_off4_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h1 : k0_cond1 k0_t1 arg15_r0 = 1#1), ∀ a, (k0_off4 arg7_r0) a + S1x512x1024.size a ≤ S2x512x1024.size a := fun k0_t1 arg7_r0 arg8_r0 arg13_r0 arg14_r0 arg15_r0 k0_hw1 k0_h1 => k0_hw1.2.1 k0_h1
theorem k0_off5_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h1 : k0_cond1 k0_t1 arg15_r0 = 1#1), ∀ a, (k0_off5 arg15_r0) a + S512x1024.size a ≤ S32768x1024.size a := fun k0_t1 arg7_r0 arg8_r0 arg13_r0 arg14_r0 arg15_r0 k0_hw1 k0_h1 => k0_hw1.2.2.1 k0_h1
theorem k0_off6_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h2 : k0_cond2 k0_t1 arg15_r0 = 1#1), ∀ a, (k0_off6 arg8_r0) a + S1.size a ≤ S2.size a := fun k0_t1 arg7_r0 arg8_r0 arg13_r0 arg14_r0 arg15_r0 k0_hw1 k0_h2 => k0_hw1.2.2.2.1 k0_h2
theorem k0_off7_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h2 : k0_cond2 k0_t1 arg15_r0 = 1#1), ∀ a, (k0_off7 arg8_r0) a + S1x512x1024.size a ≤ S2x512x1024.size a := fun k0_t1 arg7_r0 arg8_r0 arg13_r0 arg14_r0 arg15_r0 k0_hw1 k0_h2 => k0_hw1.2.2.2.2.1 k0_h2
theorem k0_off8_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h2 : k0_cond2 k0_t1 arg15_r0 = 1#1), ∀ a, (k0_off8 arg15_r0) a + S512x1024.size a ≤ S32768x1024.size a := fun k0_t1 arg7_r0 arg8_r0 arg13_r0 arg14_r0 arg15_r0 k0_hw1 k0_h2 => k0_hw1.2.2.2.2.2.1 k0_h2
theorem k0_off11_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h5 : k0_cond5 k0_t1 arg15_r0 = 1#1), ∀ a, (k0_off11 arg13_r0) a + S1.size a ≤ S2.size a := fun k0_t1 arg7_r0 arg8_r0 arg13_r0 arg14_r0 arg15_r0 k0_hw1 k0_h5 => k0_hw1.2.2.2.2.2.2.1 k0_h5
theorem k0_off12_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h5 : k0_cond5 k0_t1 arg15_r0 = 1#1), ∀ a, (k0_off12 arg15_r0) a + S512x1024.size a ≤ S32768x1024.size a := fun k0_t1 arg7_r0 arg8_r0 arg13_r0 arg14_r0 arg15_r0 k0_hw1 k0_h5 => k0_hw1.2.2.2.2.2.2.2.1 k0_h5
theorem k0_off13_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h5 : k0_cond5 k0_t1 arg15_r0 = 1#1), ∀ a, (k0_off13 arg13_r0) a + S1x512x1024.size a ≤ S2x512x1024.size a := fun k0_t1 arg7_r0 arg8_r0 arg13_r0 arg14_r0 arg15_r0 k0_hw1 k0_h5 => k0_hw1.2.2.2.2.2.2.2.2.1 k0_h5
theorem k0_off14_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h7 : k0_cond7 k0_t1 arg15_r0 = 1#1), ∀ a, (k0_off14 arg14_r0) a + S1.size a ≤ S2.size a := fun k0_t1 arg7_r0 arg8_r0 arg13_r0 arg14_r0 arg15_r0 k0_hw1 k0_h7 => k0_hw1.2.2.2.2.2.2.2.2.2.1 k0_h7
theorem k0_off15_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h7 : k0_cond7 k0_t1 arg15_r0 = 1#1), ∀ a, (k0_off15 arg15_r0) a + S512x1024.size a ≤ S32768x1024.size a := fun k0_t1 arg7_r0 arg8_r0 arg13_r0 arg14_r0 arg15_r0 k0_hw1 k0_h7 => k0_hw1.2.2.2.2.2.2.2.2.2.2.1 k0_h7
theorem k0_off16_inb : ∀ (k0_t1 : Fin k0_t1_loop.trips) (arg7_r0 : BitVec 32) (arg8_r0 : BitVec 32) (arg13_r0 : BitVec 32) (arg14_r0 : BitVec 32) (arg15_r0 : BitVec 32) (k0_hw1 : k0_chk1 k0_t1 arg7_r0 arg8_r0 arg13_r0 arg14_r0 arg15_r0), ∀ (k0_h7 : k0_cond7 k0_t1 arg15_r0 = 1#1), ∀ a, (k0_off16 arg14_r0) a + S1x512x1024.size a ≤ S2x512x1024.size a := fun k0_t1 arg7_r0 arg8_r0 arg13_r0 arg14_r0 arg15_r0 k0_hw1 k0_h7 => k0_hw1.2.2.2.2.2.2.2.2.2.2.2 k0_h7

def k0_off17 (v23_7_r0 : BitVec 32) : Fin 1 → Nat :=
  let c2_i32_59_r0 : BitVec 32 := 2#32
  let v44_r0 : BitVec 32 := Scalar.remui v23_7_r0 c2_i32_59_r0
  ![v44_r0.toNat]

def k0_off18 (v23_8_r0 : BitVec 32) : Fin 2 → Nat :=
  let c512_i32_r0 : BitVec 32 := 512#32
  let true_40_r0 : BitVec 1 := 1#1
  let c1_i32_39_r0 : BitVec 32 := 1#32
  let v24_r0 : BitVec 32 := Scalar.subi v23_8_r0 c1_i32_39_r0
  let v25_r0 : BitVec 32 := Scalar.select true_40_r0 v24_r0 v23_8_r0
  let c_m1_i32_41_r0 : BitVec 32 := 4294967295#32
  let v26_r0 : BitVec 1 := Scalar.cmpi .eq v25_r0 c_m1_i32_41_r0
  let c63_i32_42_r0 : BitVec 32 := 63#32
  let v27_r0 : BitVec 32 := Scalar.select v26_r0 c63_i32_42_r0 v25_r0
  let c0_i32_43_r0 : BitVec 32 := 0#32
  let v28_r0 : BitVec 32 := Scalar.addi v27_r0 c0_i32_43_r0
  let v45_r0 : BitVec 32 := Scalar.muli c512_i32_r0 v28_r0
  let c0_i32_60_r0 : BitVec 32 := 0#32
  ![v45_r0.toNat, 0]

def k0_chk5 (v23_8_r0 : BitVec 32) : Prop :=
  (∀ a, (k0_off18 v23_8_r0) a + S512x1024.size a ≤ S32768x1024.size a)
theorem k0_off18_inb : ∀ (v23_8_r0 : BitVec 32) (k0_hw5 : k0_chk5 v23_8_r0), ∀ a, (k0_off18 v23_8_r0) a + S512x1024.size a ≤ S32768x1024.size a := fun v23_8_r0 k0_hw5 => k0_hw5

def k0_off19 (v23_7_r0 : BitVec 32) : Fin 3 → Nat :=
  let c2_i32_59_r0 : BitVec 32 := 2#32
  let v44_r0 : BitVec 32 := Scalar.remui v23_7_r0 c2_i32_59_r0
  let c0_i32_61_r0 : BitVec 32 := 0#32
  let c0_i32_62_r0 : BitVec 32 := 0#32
  ![v44_r0.toNat, 0, 0]

def k0_chk4 (v23_7_r0 : BitVec 32) : Prop :=
  (∀ a, (k0_off17 v23_7_r0) a + S1.size a ≤ S2.size a) ∧
  (∀ a, (k0_off19 v23_7_r0) a + S1x512x1024.size a ≤ S2x512x1024.size a)
theorem k0_off17_inb : ∀ (v23_7_r0 : BitVec 32) (k0_hw4 : k0_chk4 v23_7_r0), ∀ a, (k0_off17 v23_7_r0) a + S1.size a ≤ S2.size a := fun v23_7_r0 k0_hw4 => k0_hw4.1
theorem k0_off19_inb : ∀ (v23_7_r0 : BitVec 32) (k0_hw4 : k0_chk4 v23_7_r0), ∀ a, (k0_off19 v23_7_r0) a + S1x512x1024.size a ≤ S2x512x1024.size a := fun v23_7_r0 k0_hw4 => k0_hw4.2
-- ==== ReferenceIdeal.lean ====
abbrev S4x8192x1024 : Shape := ⟨3, ![4, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S1024x5632, .f32⟩
  | .hbm, ⟨23, _⟩ => ⟨S2816x1024, .f32⟩
  | .hbm, ⟨24, _⟩ => ⟨S4x8192x5632, .f32⟩
  | .hbm, ⟨25, _⟩ => ⟨S4x8192x2816, .f32⟩
  | .hbm, ⟨26, _⟩ => ⟨S4x8192x2816, .f32⟩
  | .hbm, ⟨27, _⟩ => ⟨S4x8192x2816, .f32⟩
  | .hbm, ⟨28, _⟩ => ⟨S4x8192x2816, .f32⟩
  | .hbm, ⟨29, _⟩ => ⟨S_, .f32⟩
  | .hbm, ⟨30, _⟩ => ⟨S4x8192x2816, .f32⟩
  | .hbm, ⟨31, _⟩ => ⟨S4x8192x2816, .f32⟩
  | .hbm, ⟨32, _⟩ => ⟨S_, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S4x8192x2816, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192 : Shape := ⟨2, ![4, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2304 : Shape := ⟨3, ![1, 1024, 2304]⟩
abbrev S1x1024x1024 : Shape := ⟨3, ![1, 1024, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S128x1 : Shape := ⟨2, ![128, 1]⟩
abbrev S64x1x512 : Shape := ⟨3, ![64, 1, 512]⟩
abbrev S1024x2304 : Shape := ⟨2, ![1024, 2304]⟩
abbrev S1024x1024 : Shape := ⟨2, ![1024, 1024]⟩
abbrev S1024x5632 : Shape := ⟨2, ![1024, 5632]⟩
abbrev S2816x1024 : Shape := ⟨2, ![2816, 1024]⟩
abbrev S32768x1024 : Shape := ⟨2, ![32768, 1024]⟩
abbrev S1024 : Shape := ⟨1, ![1024]⟩
abbrev S32768x256 : Shape := ⟨2, ![32768, 256]⟩
abbrev S512x1024 : Shape := ⟨2, ![512, 1024]⟩
abbrev S1x1x512 : Shape := ⟨3, ![1, 1, 512]⟩
abbrev S16x2304 : Shape := ⟨2, ![16, 2304]⟩
abbrev S16x1024 : Shape := ⟨2, ![16, 1024]⟩
abbrev S16x5632 : Shape := ⟨2, ![16, 5632]⟩
abbrev S64x1024 : Shape := ⟨2, ![64, 1024]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S256x1024 : Shape := ⟨2, ![256, 1024]⟩
abbrev S1x512 : Shape := ⟨2, ![1, 512]⟩
abbrev S128x512 : Shape := ⟨2, ![128, 512]⟩
abbrev S512x128 : Shape := ⟨2, ![512, 128]⟩

abbrev nBuf : Space → Nat
  | .hbm => 43
  | .vmem => 36
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024x2304, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024x5632, .f32⟩
  | .hbm, ⟨10, _⟩ => ⟨S1x2816x1024, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S128x1, .f32⟩
  | .hbm, ⟨23, _⟩ => ⟨S64x1x512, .i32⟩
  | .hbm, ⟨24, _⟩ => ⟨S1024x2304, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x5632, .f32⟩
  | .hbm, ⟨29, _⟩ => ⟨S2816x1024, .f32⟩
  | .hbm, ⟨30, _⟩ => ⟨S32768x1024, .f32⟩
  | .hbm, ⟨31, _⟩ => ⟨S1024, .f32⟩
  | .hbm, ⟨32, _⟩ => ⟨S1x1024, .f32⟩
  | .hbm, ⟨33, _⟩ => ⟨S1024x5632, .f32⟩
  | .hbm, ⟨34, _⟩ => ⟨S2816x1024, .f32⟩
  | .hbm, ⟨35, _⟩ => ⟨S32768x1024, .f32⟩
  | .hbm, ⟨36, _⟩ => ⟨S32768x256, .f32⟩
  | .hbm, ⟨37, _⟩ => ⟨S1024x2304, .bf16⟩
  | .hbm, ⟨38, _⟩ => ⟨S1024x1024, .bf16⟩
  | .hbm, ⟨39, _⟩ => ⟨S1024x1024, .bf16⟩
  | .hbm, ⟨40, _⟩ => ⟨S1024x1024, .bf16⟩
  | .hbm, ⟨41, _⟩ => ⟨S1024x5632, .bf16⟩
  | .hbm, ⟨42, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .f32⟩
  | .local _ .vmem, ⟨4, _⟩ => ⟨S2816x1024, .f32⟩
  | .local _ .vmem, ⟨5, _⟩ => ⟨S1x1x512, .i32⟩
  | .local _ .vmem, ⟨6, _⟩ => ⟨S1x1x512, .i32⟩
  | .local _ .vmem, ⟨7, _⟩ => ⟨S128x1, .f32⟩
  | .local _ .vmem, ⟨8, _⟩ => ⟨S16x2304, .f32⟩
  | .local _ .vmem, ⟨9, _⟩ => ⟨S16x2304, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x5632, .f32⟩
  | .local _ .vmem, ⟨17, _⟩ => ⟨S16x5632, .f32⟩
  | .local _ .vmem, ⟨18, _⟩ => ⟨S64x1024, .f32⟩
  | .local _ .vmem, ⟨19, _⟩ => ⟨S64x1024, .f32⟩
  | .local _ .vmem, ⟨20, _⟩ => ⟨S512x1024, .f32⟩
  | .local _ .vmem, ⟨21, _⟩ => ⟨S512x1024, .f32⟩
  | .local _ .vmem, ⟨22, _⟩ => ⟨S512x256, .f32⟩
  | .local _ .vmem, ⟨23, _⟩ => ⟨S512x256, .f32⟩
  | .local _ .vmem, ⟨24, _⟩ => ⟨S16x2304, .bf16⟩
  | .local _ .vmem, ⟨25, _⟩ => ⟨S16x2304, .bf16⟩
  | .local _ .vmem, ⟨26, _⟩ => ⟨S16x1024, .bf16⟩
  | .local _ .vmem, ⟨27, _⟩ => ⟨S16x1024, .bf16⟩
  | .local _ .vmem, ⟨28, _⟩ => ⟨S16x1024, .bf16⟩
  | .local _ .vmem, ⟨29, _⟩ => ⟨S16x1024, .bf16⟩
  | .local _ .vmem, ⟨30, _⟩ => ⟨S16x1024, .bf16⟩
  | .local _ .vmem, ⟨31, _⟩ => ⟨S16x1024, .bf16⟩
  | .local _ .vmem, ⟨32, _⟩ => ⟨S16x5632, .bf16⟩
  | .local _ .vmem, ⟨33, _⟩ => ⟨S16x5632, .bf16⟩
  | .local _ .vmem, ⟨34, _⟩ => ⟨S64x1024, .bf16⟩
  | .local _ .vmem, ⟨35, _⟩ => ⟨S64x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev main_v22_4 : Ref sig .tc := ⟨.hbm, 39, rfl⟩
abbrev main_v22_5 : Ref sig .tc := ⟨.hbm, 40, rfl⟩
abbrev main_v22_6 : Ref sig .tc := ⟨.hbm, 41, rfl⟩
abbrev main_v22_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x2304 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S4x8192x1024 : Shape := ⟨3, ![4, 8192, 1024]⟩
abbrev S4x8192 : Shape := ⟨2, ![4, 8192]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2304 : Shape := ⟨3, ![1, 1024, 2304]⟩
abbrev S1x1024x1024 : Shape := ⟨3, ![1, 1024, 1024]⟩
abbrev S1024 : Shape := ⟨1, ![1024]⟩
abbrev S_ : Shape := ⟨0, ![]⟩
abbrev S4x8192x1 : Shape := ⟨3, ![4, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S32768x1024 : Shape := ⟨2, ![32768, 1024]⟩
abbrev S32 : Shape := ⟨1, ![32]⟩
abbrev S1x1x32 : Shape := ⟨3, ![1, 1, 32]⟩
abbrev S4x8192x32 : Shape := ⟨3, ![4, 8192, 32]⟩
abbrev S4x8192x256 : Shape := ⟨3, ![4, 8192, 256]⟩
abbrev S32768x256 : Shape := ⟨2, ![32768, 256]⟩
abbrev S1024x2304 : Shape := ⟨2, ![1024, 2304]⟩
abbrev S1024x1024 : Shape := ⟨2, ![1024, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1x1024x2304, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S1024x5632, .f32⟩
  | .hbm, ⟨29, _⟩ => ⟨S2816x1024, .f32⟩
  | .hbm, ⟨30, _⟩ => ⟨S4x8192x5632, .f32⟩
  | .hbm, ⟨31, _⟩ => ⟨S4x8192x2816, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S_, .f32⟩
  | .hbm, ⟨36, _⟩ => ⟨S4x8192x2816, .f32⟩
  | .hbm, ⟨37, _⟩ => ⟨S4x8192x2816, .f32⟩
  | .hbm, ⟨38, _⟩ => ⟨S_, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x1024, .f32⟩
  | .hbm, ⟨44, _⟩ => ⟨S_, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S32768x1024, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S4x8192, .f32⟩
  | .hbm, ⟨58, _⟩ => ⟨S4x8192x1, .f32⟩
  | .hbm, ⟨59, _⟩ => ⟨S1x1x32, .f32⟩
  | .hbm, ⟨60, _⟩ => ⟨S4x8192x32, .f32⟩
  | .hbm, ⟨61, _⟩ => ⟨S4x8192x32, .f32⟩
  | .hbm, ⟨62, _⟩ => ⟨S4x8192x32, .f32⟩
  | .hbm, ⟨63, _⟩ => ⟨S4x8192x32, .f32⟩
  | .hbm, ⟨64, _⟩ => ⟨S4x8192x32, .f32⟩
  | .hbm, ⟨65, _⟩ => ⟨S4x8192x32, .f32⟩
  | .hbm, ⟨66, _⟩ => ⟨S4x8192x32, .f32⟩
  | .hbm, ⟨67, _⟩ => ⟨S4x8192x256, .f32⟩
  | .hbm, ⟨68, _⟩ => ⟨S32768x256, .f32⟩
  | .hbm, ⟨69, _⟩ => ⟨S1024x2304, .f32⟩
  | .hbm, ⟨70, _⟩ => ⟨S1024x2304, .bf16⟩
  | .hbm, ⟨71, _⟩ => ⟨S1024x1024, .f32⟩
  | .hbm, ⟨72, _⟩ => ⟨S1024x1024, .bf16⟩
  | .hbm, ⟨73, _⟩ => ⟨S1024x1024, .f32⟩
  | .hbm, ⟨74, _⟩ => ⟨S1024x1024, .bf16⟩
  | .hbm, ⟨75, _⟩ => ⟨S1024x1024, .f32⟩
  | .hbm, ⟨76, _⟩ => ⟨S1024x1024, .bf16⟩
  | .hbm, ⟨77, _⟩ => ⟨S1024x5632, .f32⟩
  | .hbm, ⟨78, _⟩ => ⟨S1024x5632, .bf16⟩
  | .hbm, ⟨79, _⟩ => ⟨S2816x1024, .f32⟩
  | .hbm, ⟨80, _⟩ => ⟨S2816x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Kernel3.lean ====
abbrev S4x256x1024 : Shape := ⟨3, ![4, 256, 1024]⟩
abbrev S1x1024 : Shape := ⟨2, ![1, 1024]⟩
abbrev S1x1024x2048 : Shape := ⟨3, ![1, 1024, 2048]⟩
abbrev S1024 : Shape := ⟨1, ![1024]⟩
abbrev S1024x2048 : Shape := ⟨2, ![1024, 2048]⟩
abbrev S4x1024x256 : Shape := ⟨3, ![4, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S1x1024, .f32⟩
  | .hbm, ⟨5, _⟩ => ⟨S1024x2048, .f32⟩
  | .hbm, ⟨6, _⟩ => ⟨S4x1024x256, .bf16⟩
  | .hbm, ⟨7, _⟩ => ⟨S4x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .f32⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x256x1024 : Shape := ⟨3, ![4, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2048 : Shape := ⟨2, ![1024, 2048]⟩
abbrev S4x256x2048 : Shape := ⟨3, ![4, 256, 2048]⟩
abbrev S4x1024x256 : Shape := ⟨3, ![4, 1024, 256]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x2048, .f32⟩
  | .hbm, ⟨21, _⟩ => ⟨S4x256x2048, .f32⟩
  | .hbm, ⟨22, _⟩ => ⟨S4x256x1024, .f32⟩
  | .hbm, ⟨23, _⟩ => ⟨S4x256x1024, .f32⟩
  | .hbm, ⟨24, _⟩ => ⟨S4x1024x256, .f32⟩
  | .hbm, ⟨25, _⟩ => ⟨S4x1024x256, .bf16⟩
  | .hbm, ⟨26, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192 : Shape := ⟨2, ![4, 8192]⟩
abbrev S1x1024 : Shape := ⟨2, ![1, 1024]⟩
abbrev S1x1024x2304 : Shape := ⟨3, ![1, 1024, 2304]⟩
abbrev S1x8 : Shape := ⟨2, ![1, 8]⟩
abbrev S1x3x512 : Shape := ⟨3, ![1, 3, 512]⟩
abbrev S1x512 : Shape := ⟨2, ![1, 512]⟩
abbrev S1x1024x1024 : Shape := ⟨3, ![1, 1024, 1024]⟩
abbrev S4x256x1024 : Shape := ⟨3, ![4, 256, 1024]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S4x8192x256 : Shape := ⟨3, ![4, 8192, 256]⟩
abbrev S32768x256 : Shape := ⟨2, ![32768, 256]⟩
abbrev S4x1024x256 : Shape := ⟨3, ![4, 1024, 256]⟩
abbrev S8 : Shape := ⟨1, ![8]⟩
abbrev S32768x1024 : Shape := ⟨2, ![32768, 1024]⟩
abbrev S1024 : Shape := ⟨1, ![1024]⟩
abbrev S1024x2304 : Shape := ⟨2, ![1024, 2304]⟩
abbrev S3x512 : Shape := ⟨2, ![3, 512]⟩
abbrev S512 : Shape := ⟨1, ![512]⟩
abbrev S1024x1024 : Shape := ⟨2, ![1024, 1024]⟩
abbrev S512x1024 : Shape := ⟨2, ![512, 1024]⟩
abbrev S512x256 : Shape := ⟨2, ![512, 256]⟩
abbrev S1x1024x256 : Shape := ⟨3, ![1, 1024, 256]⟩
abbrev S1x256x1024 : Shape := ⟨3, ![1, 256, 1024]⟩
abbrev S2x512x1024 : Shape := ⟨3, ![2, 512, 1024]⟩
abbrev S512x512 : Shape := ⟨2, ![512, 512]⟩
abbrev S640x128 : Shape := ⟨2, ![640, 128]⟩
abbrev S520x512 : Shape := ⟨2, ![520, 512]⟩
abbrev S8x128x128 : Shape := ⟨3, ![8, 128, 128]⟩
abbrev S128x128 : Shape := ⟨2, ![128, 128]⟩
abbrev S1 : Shape := ⟨1, ![1]⟩
abbrev S1x128x128 : Shape := ⟨3, ![1, 128, 128]⟩
abbrev S512x1 : Shape := ⟨2, ![512, 1]⟩
abbrev S512x2304 : Shape := ⟨2, ![512, 2304]⟩
abbrev S512x128 : Shape := ⟨2, ![512, 128]⟩
abbrev S8x512 : Shape := ⟨2, ![8, 512]⟩
abbrev S1x512x1024 : Shape := ⟨3, ![1, 512, 1024]⟩
abbrev S1x512x512 : Shape := ⟨3, ![1, 512, 512]⟩
abbrev S256x128 : Shape := ⟨2, ![256, 128]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S256x512 : Shape := ⟨2, ![256, 512]⟩
abbrev S1x128x512 : Shape := ⟨3, ![1, 128, 512]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 57
  | .vmem => 30
  | .smem => 1
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1x1024, .f32⟩
  | .hbm, ⟨3, _⟩ => ⟨S1x1024x2304, .f32⟩
  | .hbm, ⟨4, _⟩ => ⟨S1x8, .f32⟩
  | .hbm, ⟨5, _⟩ => ⟨S1x3x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024x1024, .f32⟩
  | .hbm, ⟨11, _⟩ => ⟨S1x1024x1024, .f32⟩
  | .hbm, ⟨12, _⟩ => ⟨S4x256x1024, .f32⟩
  | .hbm, ⟨13, _⟩ => ⟨S4x256x1024, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4x8192, .f32⟩
  | .hbm, ⟨23, _⟩ => ⟨S4x8192x1, .f32⟩
  | .hbm, ⟨24, _⟩ => ⟨S1x1x32, .f32⟩
  | .hbm, ⟨25, _⟩ => ⟨S4x8192x32, .f32⟩
  | .hbm, ⟨26, _⟩ => ⟨S4x8192x32, .f32⟩
  | .hbm, ⟨27, _⟩ => ⟨S4x8192x32, .f32⟩
  | .hbm, ⟨28, _⟩ => ⟨S4x8192x32, .f32⟩
  | .hbm, ⟨29, _⟩ => ⟨S4x8192x32, .f32⟩
  | .hbm, ⟨30, _⟩ => ⟨S4x8192x32, .f32⟩
  | .hbm, ⟨31, _⟩ => ⟨S4x8192x32, .f32⟩
  | .hbm, ⟨32, _⟩ => ⟨S4x8192x256, .f32⟩
  | .hbm, ⟨33, _⟩ => ⟨S32768x256, .f32⟩
  | .hbm, ⟨34, _⟩ => ⟨S4x1024x256, .f32⟩
  | .hbm, ⟨35, _⟩ => ⟨S4x1024x256, .bf16⟩
  | .hbm, ⟨36, _⟩ => ⟨S8, .f32⟩
  | .hbm, ⟨37, _⟩ => ⟨S32768x1024, .f32⟩
  | .hbm, ⟨38, _⟩ => ⟨S1024, .f32⟩
  | .hbm, ⟨39, _⟩ => ⟨S1x1024, .f32⟩
  | .hbm, ⟨40, _⟩ => ⟨S1024x2304, .f32⟩
  | .hbm, ⟨41, _⟩ => ⟨S1024x2304, .bf16⟩
  | .hbm, ⟨42, _⟩ => ⟨S3x512, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S1024x1024, .f32⟩
  | .hbm, ⟨48, _⟩ => ⟨S1024x1024, .bf16⟩
  | .hbm, ⟨49, _⟩ => ⟨S1024, .f32⟩
  | .hbm, ⟨50, _⟩ => ⟨S1x1024, .f32⟩
  | .hbm, ⟨51, _⟩ => ⟨S1024x1024, .f32⟩
  | .hbm, ⟨52, _⟩ => ⟨S1024x1024, .bf16⟩
  | .hbm, ⟨53, _⟩ => ⟨S4x256x1024, .bf16⟩
  | .hbm, ⟨54, _⟩ => ⟨S1024x1024, .f32⟩
  | .hbm, ⟨55, _⟩ => ⟨S1024x1024, .bf16⟩
  | .hbm, ⟨56, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2304, .bf16⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x256x1024, .bf16⟩
  | .local _ .vmem, ⟨17, _⟩ => ⟨S1x256x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S2x512x1024, .bf16⟩
  | .local _ .vmem, ⟨22, _⟩ => ⟨S512x512, .bf16⟩
  | .local _ .vmem, ⟨23, _⟩ => ⟨S640x128, .bf16⟩
  | .local _ .vmem, ⟨24, _⟩ => ⟨S640x128, .bf16⟩
  | .local _ .vmem, ⟨25, _⟩ => ⟨S640x128, .bf16⟩
  | .local _ .vmem, ⟨26, _⟩ => ⟨S640x128, .bf16⟩
  | .local _ .vmem, ⟨27, _⟩ => ⟨S520x512, .f32⟩
  | .local _ .vmem, ⟨28, _⟩ => ⟨S512x512, .f32⟩
  | .local _ .vmem, ⟨29, _⟩ => ⟨S8x128x128, .f32⟩
  | .local _ .smem, ⟨0, _⟩ => ⟨S8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_153 : BitVec 32 := 0#32
  let c0_i32_154 : BitVec 32 := 0#32
  ![v9.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_153 : BitVec 32 := 0#32
  ![v9.toNat, 0, 512]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_301 : BitVec 32 := 0#32
  let c0_i32_302 : BitVec 32 := 0#32
  ![v9.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_425 : BitVec 32 := 0#32
  ![v9.toNat, 128, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_548 : BitVec 32 := 0#32
  ![v9.toNat, 256, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_652 : BitVec 32 := 0#32
  ![v9.toNat, 384, 0]
def k0_cond2 (i : grid0.Coords) : BitVec 1 :=
  let arg0 : BitVec 32 := BitVec.ofNat 32 (i 0).val
  let c0_i32_5 : BitVec 32 := 0#32
  let v13 : BitVec 1 := Scalar.cmpi .sgt arg0 c0_i32_5
  let c64_i32 : BitVec 32 := 64#32
  let v14 : BitVec 1 := Scalar.cmpi .slt arg0 c64_i32
  let v15 : BitVec 1 := Scalar.andi v13 v14
  let v16 : BitVec 32 := Scalar.extui v15
  let c0_i32_6 : BitVec 32 := 0#32
  let v17 : BitVec 1 := Scalar.cmpi .ne v16 c0_i32_6
  v17

def k0_off7 (i : grid0.Coords) : Fin 3 → Nat :=
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_15 v9
  let v33 : Index := Scalar.indexCast v32
  let c0 : Index := 0#32
  let c0_16 : Index := 0#32
  ![v33.toNat, 0, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_114 : BitVec 32 := 0#32
  let c0_i32_115 : BitVec 32 := 0#32
  ![v9.toNat, 0, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_114 : BitVec 32 := 0#32
  ![v9.toNat, 0, 512]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_280 : BitVec 32 := 0#32
  let c0_i32_281 : BitVec 32 := 0#32
  ![v9.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_434 : BitVec 32 := 0#32
  ![v9.toNat, 128, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_567 : BitVec 32 := 0#32
  ![v9.toNat, 256, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_681 : BitVec 32 := 0#32
  ![v9.toNat, 384, 0]
def k0_cond3 (i : grid0.Coords) : BitVec 1 :=
  let arg0 : BitVec 32 := BitVec.ofNat 32 (i 0).val
  let c64_i32_7 : BitVec 32 := 64#32
  let v18 : BitVec 1 := Scalar.cmpi .eq arg0 c64_i32_7
  let v19 : BitVec 32 := Scalar.extui v18
  let c0_i32_8 : BitVec 32 := 0#32
  let v20 : BitVec 1 := Scalar.cmpi .ne v19 c0_i32_8
  v20

def k0_off14 (i : grid0.Coords) : Fin 3 → Nat :=
  let c1_i32_9 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : BitVec 32 := Scalar.subi c1_i32_9 v9
  let v22 : Index := Scalar.indexCast v21
  let c0 : Index := 0#32
  let c0_10 : Index := 0#32
  ![v22.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Proof.Words.lean ====
/- The words the pipeline's loop carries from trip to trip, and what the body computes from them: the slots, the
   semaphores, the row blocks and the conditions of trip `k`, each in closed form in `k`. -/
module

public import proofs.«01_k».proof.Proof.Gen.KernelIdeal.Skeleton
public import Idealize.ShloMosaic.Lib.Ring.Trips

@[expose] public section

set_option maxRecDepth 16384

noncomputable section

namespace Cert.Proof.Ffn

open Cert.KernelIdeal Cert.KernelIdeal.Gen
open Idealize.ShloMosaic

/-! ## The carried words before trip `k` -/

/-- How many blocks of the input have been asked for (block 0 before the loop, one more per trip but the last). -/
def w7 (k : ℕ) : BitVec 32 := BitVec.ofNat 32 (min (k + 1) 64)
/-- How many trips have been made; the next block waited for, and the next block sent back. -/
def w8 (k : ℕ) : BitVec 32 := BitVec.ofNat 32 k
/-- The counter of an operand that is one block: it moves after the last trip only. -/
def w9 (k : ℕ) : BitVec 32 := BitVec.ofNat 32 (k / 64)
/-- How many of the blocks sent back have been waited for: one fewer than the trips made. -/
def w14 (k : ℕ) : BitVec 32 := BitVec.ofNat 32 (k - 1)
/-- The grid index of the pipeline, wrapping to 0 after the last trip. -/
def w15 (k : ℕ) : BitVec 32 := BitVec.ofNat 32 (k % 64)

/-- All nine words before trip `k`. -/
def words (k : ℕ) : BitVec 32 × BitVec 32 × BitVec 32 × BitVec 32 × BitVec 32 × BitVec 32 × BitVec 32 × BitVec 32 × BitVec 32 :=
  (w7 k, w8 k, w9 k, w9 k, w9 k, w9 k, w8 k, w14 k, w15 k)

/-- The loop makes 64 trips. -/
theorem trips_eq : k0_t1_loop.trips = 64 := by decide +kernel

theorem trip_lt (k : Fin k0_t1_loop.trips) : k.val < 64 := Nat.lt_of_lt_of_eq k.isLt trips_eq

/-! ## The conditions of trip `k` -/

/-- The next block is asked for on every trip but the last. -/
theorem cond1_eq : ∀ k : Fin k0_t1_loop.trips, k0_cond1 k (w15 k.val) = if k.val < 63 then 1#1 else 0#1 := by decide +kernel
/-- A block of the input is waited for on every trip. -/
theorem cond2_eq : ∀ k : Fin k0_t1_loop.trips, k0_cond2 k (w15 k.val) = 1#1 := by decide +kernel
/-- A block of the result is sent back on every trip. -/
theorem cond5_eq : ∀ k : Fin k0_t1_loop.trips, k0_cond5 k (w15 k.val) = 1#1 := by decide +kernel
/-- The block sent back one trip earlier is waited for on every trip but the first. -/
theorem cond7_eq : ∀ k : Fin k0_t1_loop.trips, k0_cond7 k (w15 k.val) = if k.val = 0 then 0#1 else 1#1 := by decide +kernel

/-- Every slice the trip takes is in bounds. -/
theorem chk1 : ∀ k : Fin k0_t1_loop.trips, k0_chk1 k (w7 k.val) (w8 k.val) (w8 k.val) (w14 k.val) (w15 k.val) := by decide +kernel
theorem chk2 : ∀ k : Fin k0_t1_loop.trips, k0_chk2 (w8 k.val) := by decide +kernel
theorem chk3 : ∀ k : Fin k0_t1_loop.trips, k0_chk3 (w8 k.val) := by decide +kernel
theorem chk4 : k0_chk4 (w14 64) := by decide +kernel
theorem chk5 : k0_chk5 (w15 64) := by decide +kernel

/-! ## The offsets of trip `k` -/

abbrev semOff (s : Fin 2) : Fin 1 → ℕ := ![s.val]
abbrev slotOff (s : Fin 2) : Fin 3 → ℕ := ![s.val, 0, 0]
abbrev blkOff (b : Fin 64) : Fin 2 → ℕ := ![512 * b.val, 0]

theorem off1_eq : k0_off1 = semOff 0 := by decide +kernel
theorem off2_eq : k0_off2 = slotOff 0 := by decide +kernel
theorem off3_eq : ∀ k : Fin k0_t1_loop.trips, k.val + 1 < 64 → k0_off3 (w7 k.val) = semOff (Ring.sl 2 (k.val + 1)) := by decide +kernel
theorem off4_eq : ∀ k : Fin k0_t1_loop.trips, k.val + 1 < 64 → k0_off4 (w7 k.val) = slotOff (Ring.sl 2 (k.val + 1)) := by decide +kernel
theorem off5_eq : ∀ k : Fin k0_t1_loop.trips, k.val + 1 < 64 → k0_off5 (w15 k.val) = blkOff (Ring.bk 64 (k.val + 1)) := by decide +kernel
theorem off6_eq : ∀ k : Fin k0_t1_loop.trips, k0_off6 (w8 k.val) = semOff (Ring.sl 2 k.val) := by decide +kernel
theorem off7_eq : ∀ k : Fin k0_t1_loop.trips, k0_off7 (w8 k.val) = slotOff (Ring.sl 2 k.val) := by decide +kernel
theorem off8_eq : ∀ k : Fin k0_t1_loop.trips, k0_off8 (w15 k.val) = blkOff (Ring.bk 64 k.val) := by decide +kernel
theorem off9_eq : ∀ k : Fin k0_t1_loop.trips, k0_off9 (w8 k.val) = slotOff (Ring.sl 2 k.val) := by decide +kernel
theorem off10_eq : ∀ k : Fin k0_t1_loop.trips, k0_off10 (w8 k.val) = slotOff (Ring.sl 2 k.val) := by decide +kernel
theorem off11_eq : ∀ k : Fin k0_t1_loop.trips, k0_off11 (w8 k.val) = semOff (Ring.sl 2 k.val) := by decide +kernel
theorem off12_eq : ∀ k : Fin k0_t1_loop.trips, k0_off12 (w15 k.val) = blkOff (Ring.bk 64 k.val) := by decide +kernel
theorem off13_eq : ∀ k : Fin k0_t1_loop.trips, k0_off13 (w8 k.val) = slotOff (Ring.sl 2 k.val) := by decide +kernel
theorem off14_eq : ∀ k : Fin k0_t1_loop.trips, 1 ≤ k.val → k0_off14 (w14 k.val) = semOff (Ring.sl 2 (k.val + 1)) := by decide +kernel
theorem off15_eq : ∀ k : Fin k0_t1_loop.trips, 1 ≤ k.val → k0_off15 (w15 k.val) = blkOff (Ring.bk 64 (k.val - 1)) := by decide +kernel
theorem off16_eq : ∀ k : Fin k0_t1_loop.trips, 1 ≤ k.val → k0_off16 (w14 k.val) = slotOff (Ring.sl 2 (k.val + 1)) := by decide +kernel
theorem off17_eq : k0_off17 (w14 64) = semOff 1 := by decide +kernel
theorem off18_eq : k0_off18 (w15 64) = blkOff 63 := by decide +kernel
theorem off19_eq : k0_off19 (w14 64) = slotOff 1 := by decide +kernel

end Cert.Proof.Ffn

end
-- ==== Proof.Pieces.lean ====
/- The pieces the software pipeline moves: the 64 row blocks of the input and of the result, the two slots of either
   staging ring and their semaphores, under one name each; what the body slices is these names. -/
module

public import proofs.«01_k».proof.Proof.Words
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Ring.WriteBehind
public import Idealize.ShloMosaic.Lib.Tactic

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the launch. -/
abbrev UU : Type := Pipeline.UD sig nD τ
local notation "𝕄" => MT nD τ sig Unit (Elt F) ℕ UU ℕ
abbrev 𝒱₀ : Variants := Variants.none

theorem entails_of_eq {P Q : sProp 𝕄} (e : P = Q) : P ⊢ Q := e ▸ .rfl

/-! ## Row blocks, slots, semaphores -/

/-- The input, the result, and the two staging rings, whole. -/
abbrev xM : Memref sig .tc .hbm S32768x1024 .f32 := Memref.whole main_v0
abbrev oM : Memref sig .tc .hbm S32768x1024 .f32 := Memref.whole main_v8
abbrev inM : Memref sig .tc .vmem S2x512x1024 .f32 := Memref.whole cc0_scoped0
abbrev outM : Memref sig .tc .vmem S2x512x1024 .f32 := Memref.whole cc0_scoped6

theorem semOff_inb (s : Fin 2) : ∀ a, semOff s a + S1.size a ≤ S2.size a := by
  have := s.isLt; intro a; fin_cases a; show s.val + 1 ≤ 2; omega
theorem slotOff_inb (s : Fin 2) : ∀ a, slotOff s a + S1x512x1024.size a ≤ S2x512x1024.size a := by
  have := s.isLt; intro a; fin_cases a
  · show s.val + 1 ≤ 2; omega
  · show 0 + 512 ≤ 512; omega
  · show 0 + 1024 ≤ 1024; omega
theorem blkOff_inb (b : Fin 64) : ∀ a, blkOff b a + S512x1024.size a ≤ S32768x1024.size a := by
  have := b.isLt; intro a; fin_cases a
  · show 512 * b.val + 512 ≤ 32768; omega
  · show 0 + 1024 ≤ 1024; omega

/-- Rows `512 b … 512 b + 511` of the input. -/
def xblk (b : Fin 64) : Memref sig .tc .hbm S512x1024 .f32 :=
  xM.slice (Rect.unit (s := S32768x1024) (blkOff b) S512x1024.size (blkOff_inb b)) (fun _ => rfl)
/-- Rows `512 b … 512 b + 511` of the result. -/
def oblk (b : Fin 64) : Memref sig .tc .hbm S512x1024 .f32 :=
  oM.slice (Rect.unit (s := S32768x1024) (blkOff b) S512x1024.size (blkOff_inb b)) (fun _ => rfl)
/-- Slot `s` of the input ring. -/
def islot (s : Fin 2) : Memref sig .tc .vmem S512x1024 .f32 :=
  (inM.slice (Rect.unit (s := S2x512x1024) (slotOff s) S1x512x1024.size (slotOff_inb s)) (fun _ => rfl)).squeeze S512x1024 squeezes_S1x512x1024_S512x1024
/-- Slot `s` of the output ring. -/
def oslot (s : Fin 2) : Memref sig .tc .vmem S512x1024 .f32 :=
  (outM.slice (Rect.unit (s := S2x512x1024) (slotOff s) S1x512x1024.size (slotOff_inb s)) (fun _ => rfl)).squeeze S512x1024 squeezes_S1x512x1024_S512x1024
/-- The semaphore of slot `s` of the input ring. -/
def ism (s : Fin 2) : DmaSems sig S_ := (cc0_scoped1.slice (Rect.unit (s := S2) (semOff s) S1.size (semOff_inb s))).squeeze S_ squeezes_S1_S_
/-- The semaphore of slot `s` of the output ring. -/
def osm (s : Fin 2) : DmaSems sig S_ := (cc0_scoped7.slice (Rect.unit (s := S2) (semOff s) S1.size (semOff_inb s))).squeeze S_ squeezes_S1_S_

instance (s : Fin 2) : ClosedOff (slotOff s) := ⟨slotOff s, rfl⟩
instance (b : Fin 64) : ClosedOff (blkOff b) := ⟨blkOff b, rfl⟩
instance (k : Fin k0_t1_loop.trips) : ClosedOff (k0_off9 (w8 k.val)) := ⟨slotOff (Ring.sl 2 k.val), off9_eq k⟩
instance (k : Fin k0_t1_loop.trips) : ClosedOff (k0_off10 (w8 k.val)) := ⟨slotOff (Ring.sl 2 k.val), off10_eq k⟩

/-! ## What the body slices -/

theorem ism_congr {off : Fin 1 → ℕ} {s : Fin 2} (e : off = semOff s) (hh) :
    (cc0_scoped1.slice (Rect.unit (s := S2) off S1.size hh)).squeeze S_ squeezes_S1_S_ = ism s :=
  congrArg (fun A : DmaSems sig S1 => A.squeeze S_ squeezes_S1_S_) (SemArray.slice_unit_congr _ e _ _)
theorem osm_congr {off : Fin 1 → ℕ} {s : Fin 2} (e : off = semOff s) (hh) :
    (cc0_scoped7.slice (Rect.unit (s := S2) off S1.size hh)).squeeze S_ squeezes_S1_S_ = osm s :=
  congrArg (fun A : DmaSems sig S1 => A.squeeze S_ squeezes_S1_S_) (SemArray.slice_unit_congr _ e _ _)
theorem islot_congr {off : Fin 3 → ℕ} {s : Fin 2} (e : off = slotOff s) (hh hs) :
    (inM.slice (Rect.unit (s := S2x512x1024) off S1x512x1024.size hh) hs).squeeze S512x1024 squeezes_S1x512x1024_S512x1024 = islot s :=
  congrArg (fun M : Memref sig .tc .vmem S1x512x1024 .f32 => M.squeeze S512x1024 squeezes_S1x512x1024_S512x1024) (Memref.slice_unit_congr _ e _ _ _ _)
theorem oslot_congr {off : Fin 3 → ℕ} {s : Fin 2} (e : off = slotOff s) (hh hs) :
    (outM.slice (Rect.unit (s := S2x512x1024) off S1x512x1024.size hh) hs).squeeze S512x1024 squeezes_S1x512x1024_S512x1024 = oslot s :=
  congrArg (fun M : Memref sig .tc .vmem S1x512x1024 .f32 => M.squeeze S512x1024 squeezes_S1x512x1024_S512x1024) (Memref.slice_unit_congr _ e _ _ _ _)
theorem xblk_congr {off : Fin 2 → ℕ} {b : Fin 64} (e : off = blkOff b) (hh hs) :
    xM.slice (Rect.unit (s := S32768x1024) off S512x1024.size hh) hs = xblk b := Memref.slice_unit_congr _ e _ _ _ (fun _ => rfl)
theorem oblk_congr {off : Fin 2 → ℕ} {b : Fin 64} (e : off = blkOff b) (hh hs) :
    oM.slice (Rect.unit (s := S32768x1024) off S512x1024.size hh) hs = oblk b := Memref.slice_unit_congr _ e _ _ _ (fun _ => rfl)

section Canon

/-- Before the loop: block 0 into slot 0. -/
@[sl_canon] theorem ism0 (hh) : (cc0_scoped1.slice (Rect.unit (s := S2) k0_off1 S1.size hh)).squeeze S_ squeezes_S1_S_ = ism 0 := ism_congr off1_eq _
@[sl_canon] theorem islot0 (hh hs) : (inM.slice (Rect.unit (s := S2x512x1024) k0_off2 S1x512x1024.size hh) hs).squeeze S512x1024 squeezes_S1x512x1024_S512x1024 = islot 0 := islot_congr off2_eq _ _
@[sl_canon] theorem xblk0 (hh hs) : xM.slice (Rect.unit (s := S32768x1024) ![0, 0] S512x1024.size hh) hs = xblk 0 := xblk_congr (by decide) _ _

variable (k : Fin k0_t1_loop.trips)

/-- Trip `k`: block `k + 1` asked for, -/
@[sl_canon] theorem ismA (hk : k.val + 1 < 64) (hh) : (cc0_scoped1.slice (Rect.unit (s := S2) (k0_off3 (w7 k.val)) S1.size hh)).squeeze S_ squeezes_S1_S_ = ism (Ring.sl 2 (k.val + 1)) := ism_congr (off3_eq k hk) _
@[sl_canon] theorem islotA (hk : k.val + 1 < 64) (hh hs) : (inM.slice (Rect.unit (s := S2x512x1024) (k0_off4 (w7 k.val)) S1x512x1024.size hh) hs).squeeze S512x1024 squeezes_S1x512x1024_S512x1024 = islot (Ring.sl 2 (k.val + 1)) := islot_congr (off4_eq k hk) _ _
@[sl_canon] theorem xblkA (hk : k.val + 1 < 64) (hh hs) : xM.slice (Rect.unit (s := S32768x1024) (k0_off5 (w15 k.val)) S512x1024.size hh) hs = xblk (Ring.bk 64 (k.val + 1)) := xblk_congr (off5_eq k hk) _ _
/-- block `k` waited for, -/
@[sl_canon] theorem ismW (hh) : (cc0_scoped1.slice (Rect.unit (s := S2) (k0_off6 (w8 k.val)) S1.size hh)).squeeze S_ squeezes_S1_S_ = ism (Ring.sl 2 k.val) := ism_congr (off6_eq k) _
@[sl_canon] theorem islotW (hh hs) : (inM.slice (Rect.unit (s := S2x512x1024) (k0_off7 (w8 k.val)) S1x512x1024.size hh) hs).squeeze S512x1024 squeezes_S1x512x1024_S512x1024 = islot (Ring.sl 2 k.val) := islot_congr (off7_eq k) _ _
@[sl_canon] theorem xblkW (hh hs) : xM.slice (Rect.unit (s := S32768x1024) (k0_off8 (w15 k.val)) S512x1024.size hh) hs = xblk (Ring.bk 64 k.val) := xblk_congr (off8_eq k) _ _
/-- block `k` of the result sent back, -/
@[sl_canon] theorem osmA (hh) : (cc0_scoped7.slice (Rect.unit (s := S2) (k0_off11 (w8 k.val)) S1.size hh)).squeeze S_ squeezes_S1_S_ = osm (Ring.sl 2 k.val) := osm_congr (off11_eq k) _
@[sl_canon] theorem oslotA (hh hs) : (outM.slice (Rect.unit (s := S2x512x1024) (k0_off13 (w8 k.val)) S1x512x1024.size hh) hs).squeeze S512x1024 squeezes_S1x512x1024_S512x1024 = oslot (Ring.sl 2 k.val) := oslot_congr (off13_eq k) _ _
@[sl_canon] theorem oblkA (hh hs) : oM.slice (Rect.unit (s := S32768x1024) (k0_off12 (w15 k.val)) S512x1024.size hh) hs = oblk (Ring.bk 64 k.val) := oblk_congr (off12_eq k) _ _
/-- and block `k - 1` of the result waited for. -/
@[sl_canon] theorem osmW (hk : 1 ≤ k.val) (hh) : (cc0_scoped7.slice (Rect.unit (s := S2) (k0_off14 (w14 k.val)) S1.size hh)).squeeze S_ squeezes_S1_S_ = osm (Ring.sl 2 (k.val + 1)) := osm_congr (off14_eq k hk) _
@[sl_canon] theorem oslotW (hk : 1 ≤ k.val) (hh hs) : (outM.slice (Rect.unit (s := S2x512x1024) (k0_off16 (w14 k.val)) S1x512x1024.size hh) hs).squeeze S512x1024 squeezes_S1x512x1024_S512x1024 = oslot (Ring.sl 2 (k.val + 1)) := oslot_congr (off16_eq k hk) _ _
@[sl_canon] theorem oblkW (hk : 1 ≤ k.val) (hh hs) : oM.slice (Rect.unit (s := S32768x1024) (k0_off15 (w15 k.val)) S512x1024.size hh) hs = oblk (Ring.bk 64 (k.val - 1)) := oblk_congr (off15_eq k hk) _ _
/-- After the loop: block 63 of the result waited for. -/
@[sl_canon] theorem osmE (hh) : (cc0_scoped7.slice (Rect.unit (s := S2) (k0_off17 (w14 64)) S1.size hh)).squeeze S_ squeezes_S1_S_ = osm 1 := osm_congr off17_eq _
@[sl_canon] theorem oslotE (hh hs) : (outM.slice (Rect.unit (s := S2x512x1024) (k0_off19 (w14 64)) S1x512x1024.size hh) hs).squeeze S512x1024 squeezes_S1x512x1024_S512x1024 = oslot 1 := oslot_congr off19_eq _ _
@[sl_canon] theorem oblkE (hh hs) : oM.slice (Rect.unit (s := S32768x1024) (k0_off18 (w15 64)) S512x1024.size hh) hs = oblk 63 := oblk_congr off18_eq _ _

end Canon

/-! ## The sets the pieces cover -/

abbrev blkSet (b : Fin 64) : Finset S32768x1024.Idx := (Rect.unit (s := S32768x1024) (blkOff b) S512x1024.size (blkOff_inb b)).set
abbrev slotSet (s : Fin 2) : Finset S2x512x1024.Idx := (Rect.unit (s := S2x512x1024) (slotOff s) S1x512x1024.size (slotOff_inb s)).set

theorem xblk_set (b : Fin 64) : (xblk b).view.set = blkSet b := View.set_slice_whole _ _
theorem oblk_set (b : Fin 64) : (oblk b).view.set = blkSet b := View.set_slice_whole _ _
theorem islot_set (s : Fin 2) : (islot s).view.set = slotSet s := (View.set_reshape _ _).trans (View.set_slice_whole _ _)
theorem oslot_set (s : Fin 2) : (oslot s).view.set = slotSet s := (View.set_reshape _ _).trans (View.set_slice_whole _ _)

theorem mem_blkSet (b : Fin 64) (y : S32768x1024.Idx) : y ∈ blkSet b ↔ (y 0).val / 512 = b.val := by
  rw [Rect.mem_set_unit]
  have h1 : (y 1).val < 1024 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 1024; omega
theorem mem_slotSet (s : Fin 2) (y : S2x512x1024.Idx) : y ∈ slotSet s ↔ (y 0).val = s.val := by
  rw [Rect.mem_set_unit]
  have h1 : (y 1).val < 512 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1024; omega
theorem blk_disjoint : ∀ b b' : Fin 64, b ≠ b' → Disjoint (blkSet b) (blkSet b') := by
  intro b b' hne; rw [Finset.disjoint_left]; intro y hy hy'; rw [mem_blkSet] at hy hy'; exact hne (Fin.ext (hy.symm.trans hy'))
theorem blk_cover : (Finset.univ : Finset (Fin 64)).biUnion blkSet = Finset.univ := by
  ext y; simp only [Finset.mem_biUnion, Finset.mem_univ, true_and, iff_true]
  have h0 : (y 0).val < 32768 := (y 0).isLt
  exact ⟨⟨(y 0).val / 512, by omega⟩, by rw [mem_blkSet]⟩
theorem slot_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slot_cover : (Finset.univ : Finset (Fin 2)).biUnion slotSet = Finset.univ := by
  ext y; simp only [Finset.mem_biUnion, Finset.mem_univ, true_and, iff_true]; exact ⟨(y 0).cast (by decide), by rw [mem_slotSet]; rfl⟩

/-! ## The pieces as assertions -/

section Pieces
variable (c : Dev nD) (XA : Buf (Elt F) (xM.view.loc (c : Thread nD τ)))

/-- The semaphore of a slot, at zero. -/
abbrev icellP (s : Fin 2) : sProp 𝕄 := semVal ((c : Thread nD τ), SemLoc.dma (ism s).sem) 0
abbrev ocellP (s : Fin 2) : sProp 𝕄 := semVal ((c : Thread nD τ), SemLoc.dma (osm s).sem) 0
/-- A slot held at given contents. -/
abbrev islotP (s : Fin 2) (f : Buf (Elt F) ((islot s).view.loc (c : Thread nD τ))) : sProp 𝕄 :=
  (islot s).view.loc (c : Thread nD τ) ↦[(islot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Block `b` of the input, at the input's contents. -/
abbrev xP (b : Fin 64) : sProp 𝕄 := (xblk b).view.loc (c : Thread nD τ) ↦[(xblk b).view.set]{fullShare} XA
/-- Block `b` of the result, at given contents. -/
abbrev oP (g : Buf (Elt F) (oM.view.loc (c : Thread nD τ))) (b : Fin 64) : sProp 𝕄 := (oblk b).view.loc (c : Thread nD τ) ↦[(oblk b).view.set]{fullShare} g
/-- Block `b` of the input as what its transfer carries. -/
abbrev xload (b : Fin 64) : S512x1024.Idx → Elt F .f32 := ReadAs.same.apply ((xblk b).view.read (Elt F) XA)
/-- What block `b`'s transfer leaves in slot `s` over prior contents `f`. -/
abbrev landed (s : Fin 2) (b : Fin 64) (f : Buf (Elt F) ((islot s).view.loc (c : Thread nD τ))) : Buf (Elt F) ((islot s).view.loc (c : Thread nD τ)) :=
  (islot s).view.writes (Elt F) f [⟨Rect.whole S512x1024, xload c XA b⟩]
/-- Slot `s` of the input ring in flight with block `b`. -/
abbrev iflight (s : Fin 2) (b : Fin 64) (f : Buf (Elt F) ((islot s).view.loc (c : Thread nD τ))) : sProp 𝕄 :=
  Transfers.Flight countersEmb (c : Thread nD τ) (SemLoc.dma (ism s).sem) () 65536 iprop(islotP c s (landed c XA s b f) ∗ xP c XA b)
/-- Slot `s` of the output ring in flight to block `b` of the result, which it leaves at contents `g`. -/
abbrev oflight (s : Fin 2) (b : Fin 64) (g : Buf (Elt F) (oM.view.loc (c : Thread nD τ))) (f : Buf (Elt F) ((oslot s).view.loc (c : Thread nD τ))) : sProp 𝕄 :=
  Transfers.Flight countersEmb (c : Thread nD τ) (SemLoc.dma (osm s).sem) () 65536 iprop(oP c g b ∗ oslotP c s f)

end Pieces

end Cert.Proof.Ffn

end
-- ==== Proof.Value.lean ====
/- What one trip of the pipeline computes: the block of the result as a function of the block of the input and of the
   four operands the kernel keeps whole; and what the transfers and the slots carry, read as values. -/
module

public import proofs.«01_k».proof.Proof.Pieces

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- The buffers the four whole operands are copied into. -/
abbrev g2M : Memref sig .tc .vmem S1x1024 .f32 := Memref.whole cc0_scoped2
abbrev w3M : Memref sig .tc .vmem S1024x5632 .bf16 := Memref.whole cc0_scoped3
abbrev w4M : Memref sig .tc .vmem S2816x1024 .bf16 := Memref.whole cc0_scoped4
abbrev g5M : Memref sig .tc .vmem S1x1024 .f32 := Memref.whole cc0_scoped5

section Block
variable
  (B2 : g2M.view.ty.Contents (Elt F)) (B3 : w3M.view.ty.Contents (Elt F))
  (B4 : w4M.view.ty.Contents (Elt F)) (B5 : g5M.view.ty.Contents (Elt F))
  (x : Vec F S1x512x1024 .f32)

/-- The gains, as the body loads them. -/
def gain : Vec F S1x1024 .f32 := g2M.view.readAt (Elt F) (Rect.unit (s := S1x1024) ![0, 0] S1x1024.size inb_S1x1024_S1x1024_0_0).toLoadRect B2
def fgain : Vec F S1x1024 .f32 := g5M.view.readAt (Elt F) (Rect.unit (s := S1x1024) ![0, 0] S1x1024.size inb_S1x1024_S1x1024_0_0).toLoadRect B5
/-- The gate's and the value's columns of the input weights, chunk by chunk, and the rows of the output weights. -/
def wg0 : Vec F S1024x512 .bf16 := w3M.view.readAt (Elt F) (Rect.unit (s := S1024x5632) ![0, 0] S1024x512.size inb_S1024x5632_S1024x512_0_0).toLoadRect B3
def wg1 : Vec F S1024x512 .bf16 := w3M.view.readAt (Elt F) (Rect.unit (s := S1024x5632) ![0, 512] S1024x512.size inb_S1024x5632_S1024x512_0_512).toLoadRect B3
def wg2 : Vec F S1024x512 .bf16 := w3M.view.readAt (Elt F) (Rect.unit (s := S1024x5632) ![0, 1024] S1024x512.size inb_S1024x5632_S1024x512_0_1024).toLoadRect B3
def wg3 : Vec F S1024x512 .bf16 := w3M.view.readAt (Elt F) (Rect.unit (s := S1024x5632) ![0, 1536] S1024x512.size inb_S1024x5632_S1024x512_0_1536).toLoadRect B3
def wg4 : Vec F S1024x512 .bf16 := w3M.view.readAt (Elt F) (Rect.unit (s := S1024x5632) ![0, 2048] S1024x512.size inb_S1024x5632_S1024x512_0_2048).toLoadRect B3
def wg5 : Vec F S1024x256 .bf16 := w3M.view.readAt (Elt F) (Rect.unit (s := S1024x5632) ![0, 2560] S1024x256.size inb_S1024x5632_S1024x256_0_2560).toLoadRect B3
def wu0 : Vec F S1024x512 .bf16 := w3M.view.readAt (Elt F) (Rect.unit (s := S1024x5632) ![0, 2816] S1024x512.size inb_S1024x5632_S1024x512_0_2816).toLoadRect B3
def wu1 : Vec F S1024x512 .bf16 := w3M.view.readAt (Elt F) (Rect.unit (s := S1024x5632) ![0, 3328] S1024x512.size inb_S1024x5632_S1024x512_0_3328).toLoadRect B3
def wu2 : Vec F S1024x512 .bf16 := w3M.view.readAt (Elt F) (Rect.unit (s := S1024x5632) ![0, 3840] S1024x512.size inb_S1024x5632_S1024x512_0_3840).toLoadRect B3
def wu3 : Vec F S1024x512 .bf16 := w3M.view.readAt (Elt F) (Rect.unit (s := S1024x5632) ![0, 4352] S1024x512.size inb_S1024x5632_S1024x512_0_4352).toLoadRect B3
def wu4 : Vec F S1024x512 .bf16 := w3M.view.readAt (Elt F) (Rect.unit (s := S1024x5632) ![0, 4864] S1024x512.size inb_S1024x5632_S1024x512_0_4864).toLoadRect B3
def wu5 : Vec F S1024x256 .bf16 := w3M.view.readAt (Elt F) (Rect.unit (s := S1024x5632) ![0, 5376] S1024x256.size inb_S1024x5632_S1024x256_0_5376).toLoadRect B3
def wo0 : Vec F S512x1024 .bf16 := w4M.view.readAt (Elt F) (Rect.unit (s := S2816x1024) ![0, 0] S512x1024.size inb_S2816x1024_S512x1024_0_0).toLoadRect B4
def wo1 : Vec F S512x1024 .bf16 := w4M.view.readAt (Elt F) (Rect.unit (s := S2816x1024) ![512, 0] S512x1024.size inb_S2816x1024_S512x1024_512_0).toLoadRect B4
def wo2 : Vec F S512x1024 .bf16 := w4M.view.readAt (Elt F) (Rect.unit (s := S2816x1024) ![1024, 0] S512x1024.size inb_S2816x1024_S512x1024_1024_0).toLoadRect B4
def wo3 : Vec F S512x1024 .bf16 := w4M.view.readAt (Elt F) (Rect.unit (s := S2816x1024) ![1536, 0] S512x1024.size inb_S2816x1024_S512x1024_1536_0).toLoadRect B4
def wo4 : Vec F S512x1024 .bf16 := w4M.view.readAt (Elt F) (Rect.unit (s := S2816x1024) ![2048, 0] S512x1024.size inb_S2816x1024_S512x1024_2048_0).toLoadRect B4
def wo5 : Vec F S256x1024 .bf16 := w4M.view.readAt (Elt F) (Rect.unit (s := S2816x1024) ![2560, 0] S256x1024.size inb_S2816x1024_S256x1024_2560_0).toLoadRect B4

/-- The block times the gain, in bf16. -/
def uOf : FVec F S512x1024 .bf16 := k0_pay2 x (gain B2)
/-- The reciprocal root mean square of each row of the block. -/
def rOf : FVec F S512x1 .f32 := k0_pay3 x
/-- The sum of the chunks' contributions, after chunks 0 and 1, 2, 3 (its activations, then its product with chunk 4). -/
def acc1 : FVec F S512x1024 .f32 := k0_pay6 (uOf B2 x) (rOf x) k0_pay4 (k0_pay5 x (gain B2) (wg0 B3)) (wu0 B3) (wo0 B4) (wg1 B3) (wu1 B3) (wo1 B4)
def acc2 : FVec F S512x1024 .f32 := k0_pay7 (uOf B2 x) (rOf x) (acc1 B2 B3 B4 x) (wg2 B3) (wu2 B3) (wo2 B4)
def act3 : FVec F S512x512 .bf16 := k0_pay8 (uOf B2 x) (rOf x) (wg3 B3) (wu3 B3)
def acc4 : FVec F S512x1024 .f32 := k0_pay9 (uOf B2 x) (rOf x) (acc2 B2 B3 B4 x) (act3 B2 B3 x) (wo3 B4) (wg4 B3) (wu4 B3) (wo4 B4)
/-- The block of the result. -/
def outVec : FVec F S1x512x1024 .f32 :=
  k0_pay14 (k0_pay1 x) (rOf x) (acc4 B2 B3 B4 x) (k0_pay10 (uOf B2 x) (rOf x) (wg5 B3)) (k0_pay11 (uOf B2 x) (wu5 B3))
    (k0_pay12 (uOf B2 x) (rOf x) (wg5 B3)) k0_pay13 (wo5 B4) (fgain B5)

end Block

section Whole
variable (c : Dev nD) (XA : xM.view.ty.Contents (Elt F))
  (B2 : g2M.view.ty.Contents (Elt F)) (B3 : w3M.view.ty.Contents (Elt F))
  (B4 : w4M.view.ty.Contents (Elt F)) (B5 : g5M.view.ty.Contents (Elt F))

/-- Block `b` of the input, as the body loads it from its slot. -/
def xvec (b : Fin 64) : Vec F S1x512x1024 .f32 := shapeCast S1x512x1024 (xload c XA b) (by decide)
/-- Block `b` of the result. -/
def outBlk (b : Fin 64) : S512x1024.Idx → Elt F .f32 := shapeCast S512x1024 (outVec B2 B3 B4 B5 (xvec c XA b)) (by decide)

/-- The block a row of the result lies in, and its place there. -/
def blkOf (y : S32768x1024.Idx) : Fin 64 := ⟨(y 0).val / 512, by have h : (y 0).val < 32768 := (y 0).isLt; omega⟩
def inBlk (y : S32768x1024.Idx) : S512x1024.Idx := fun a =>
  match a with
  | ⟨0, _⟩ => ⟨(y 0).val % 512, Nat.mod_lt _ (by decide)⟩
  | ⟨1, _⟩ => ⟨(y 1).val, (y 1).isLt⟩

/-- The whole result. -/
def outAll : Buf (Elt F) (oM.view.loc (c : Thread nD τ)) := fun y => outBlk c XA B2 B3 B4 B5 (blkOf y) (inBlk y)

/-- Block `b` of the whole result is the block computed from block `b` of the input. -/
theorem read_outAll (b : Fin 64) : (oblk b).view.read (Elt F) (outAll c XA B2 B3 B4 B5) = outBlk c XA B2 B3 B4 B5 b := by
  funext j
  have h0 : (j 0).val < 512 := (j 0).isLt
  have e : ∀ y : S32768x1024.Idx, (y 0).val = 512 * b.val + (j 0).val → (y 1).val = (j 1).val →
      outBlk c XA B2 B3 B4 B5 (blkOf y) (inBlk y) = outBlk c XA B2 B3 B4 B5 b j := by
    intro y e0 e1
    have hb : blkOf y = b := Fin.ext (by show (y 0).val / 512 = b.val; omega)
    have hj : inBlk y = j := by
      funext a; apply Fin.ext
      fin_cases a
      · show (y 0).val % 512 = (j 0).val; omega
      · exact e1
    rw [hb, hj]
  refine e ((oblk b).view.emb j) ?_ ?_
  · show 512 * b.val + 1 * (j 0).val = _; omega
  · show 0 + 1 * (j 1).val = _; omega

/-- Contents that read alike through a view are the same assertion on its elements. -/
theorem pointsTo_of_read {sp : Space} {s : Shape} {e : EltTy} (v : View sig .tc sp s e) (f g : Buf (Elt F) (v.loc (c : Thread nD τ)))
    (h : v.read (Elt F) f = v.read (Elt F) g) : (v.loc (c : Thread nD τ) ↦[v.set]{fullShare} f : sProp 𝕄) = v.loc (c : Thread nD τ) ↦[v.set]{fullShare} g := by
  refine pointsTo_congr fun i hi => ?_
  obtain ⟨x, -, rfl⟩ := Finset.mem_map.mp hi
  have hx := congrFun h x
  rw [View.read_apply, View.read_apply] at hx
  exact (cast_inj _).mp hx

/-- A slot's contents, loaded through the whole ring, are what its view reads. -/
theorem load_islot {off : Fin 3 → ℕ} {s : Fin 2} (e : off = slotOff s) (hh) (f : Buf (Elt F) ((islot s).view.loc (c : Thread nD τ))) :
    inM.view.readAt (Elt F) (Rect.unit (s := S2x512x1024) off S1x512x1024.size hh).toLoadRect f
      = shapeCast S1x512x1024 ((islot s).view.read (Elt F) f) (by decide) := by
  subst e
  funext i
  show inM.view.read (Elt F) f ((Rect.unit (s := S2x512x1024) (slotOff s) S1x512x1024.size hh).emb i)
    = inM.view.read (Elt F) f ((Rect.unit (s := S2x512x1024) (slotOff s) S1x512x1024.size hh).emb (Shape.reshapeEquiv _ (Shape.reshapeEquiv _ i)))
  rw [Shape.reshapeEquiv_reshapeEquiv, Shape.reshapeEquiv_self]

/-- The block the trip loads is the block its transfer carried. -/
theorem load_landed {off : Fin 3 → ℕ} {s : Fin 2} (e : off = slotOff s) (hh) (b : Fin 64) (f : Buf (Elt F) ((islot s).view.loc (c : Thread nD τ))) :
    inM.view.readAt (Elt F) (Rect.unit (s := S2x512x1024) off S1x512x1024.size hh).toLoadRect
      ((islot s).view.writes (Elt F) f [⟨Rect.whole S512x1024, xload c XA b⟩]) = xvec c XA b := by
  rw [load_islot c e, View.read_writes_whole]; rfl

/-- A slot stored through the whole ring reads, through its own view, what was stored. -/
theorem read_oslot_store {off : Fin 3 → ℕ} {s : Fin 2} (e : off = slotOff s) (hh) (f : outM.view.ty.Contents (Elt F)) (w : S1x512x1024.Idx → Elt F .f32) :
    (oslot s).view.read (Elt F) ((outM.access (Rect.unit (s := S2x512x1024) off S1x512x1024.size hh)).write (Elt F) f w Finset.univ)
      = shapeCast S512x1024 w (by decide) := by
  subst e
  funext j
  show outM.view.read (Elt F) _ ((Rect.unit (s := S2x512x1024) (slotOff s) S1x512x1024.size hh).emb (Shape.reshapeEquiv _ j)) = w _
  exact View.read_slice_write_emb (v := outM.view) (Rect.unit (s := S2x512x1024) (slotOff s) S1x512x1024.size hh) f w (Finset.mem_univ _)

/-- A block of the result written whole with what block `b`'s computation gives is block `b` of the whole result. -/
theorem oP_written (b : Fin 64) (gn : Buf (Elt F) (oM.view.loc (c : Thread nD τ))) (d : S512x1024.Idx → Elt F .f32)
    (hd : d = outBlk c XA B2 B3 B4 B5 b) :
    (oP c ((oblk b).view.writes (Elt F) gn [⟨Rect.whole S512x1024, d⟩]) b : sProp 𝕄) = oP c (outAll c XA B2 B3 B4 B5) b := by
  refine pointsTo_of_read c (oblk b).view _ _ ?_
  exact (View.read_writes_whole _ _ _).trans (hd.trans (read_outAll c XA B2 B3 B4 B5 b).symm)

/-- The same, of the block in flight. -/
theorem oflight_written (s : Fin 2) (b : Fin 64) (gn : Buf (Elt F) (oM.view.loc (c : Thread nD τ))) (d : S512x1024.Idx → Elt F .f32)
    (hd : d = outBlk c XA B2 B3 B4 B5 b) (f : Buf (Elt F) ((oslot s).view.loc (c : Thread nD τ))) :
    (oflight c s b ((oblk b).view.writes (Elt F) gn [⟨Rect.whole S512x1024, d⟩]) f : sProp 𝕄) ⊢ oflight c s b (outAll c XA B2 B3 B4 B5) f := by
  unfold oflight
  rw [oP_written c XA B2 B3 B4 B5 b gn d hd]

end Whole

end Cert.Proof.Ffn

end
-- ==== Proof.Trip.lean ====
module

public import proofs.«01_k».proof.Proof.Value

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

abbrev W9 : Type := BitVec 32 × BitVec 32 × BitVec 32 × BitVec 32 × BitVec 32 × BitVec 32 × BitVec 32 × BitVec 32 × BitVec 32

section Trip
variable (c : Dev nD) (XA : xM.view.ty.Contents (Elt F))
  (B2 : g2M.view.ty.Contents (Elt F)) (B3 : w3M.view.ty.Contents (Elt F))
  (B4 : w4M.view.ty.Contents (Elt F)) (B5 : g5M.view.ty.Contents (Elt F))
  (G : Buf (Elt F) (oM.view.loc (c : Thread nD τ)))

abbrev p2 : sProp 𝕄 := g2M.view.loc (c : Thread nD τ) ↦[g2M.view.set]{fullShare} B2
abbrev p3 : sProp 𝕄 := w3M.view.loc (c : Thread nD τ) ↦[w3M.view.set]{fullShare} B3
abbrev p4 : sProp 𝕄 := w4M.view.loc (c : Thread nD τ) ↦[w4M.view.set]{fullShare} B4
abbrev p5 : sProp 𝕄 := g5M.view.loc (c : Thread nD τ) ↦[g5M.view.set]{fullShare} B5
def wtsP : sProp 𝕄 := iprop(p2 c B2 ∗ p3 c B3 ∗ p4 c B4 ∗ p5 c B5)

/-- The loop's region at trip `k` and carried words `acc`. -/
abbrev tripG (k : Fin k0_t1_loop.trips) (acc : W9) : Prog (TpuEff nD τ sig (Elt F) Λ₀ .tc) W9 :=
  k0_t1_body (F := F) (Memref.whole main_v0) (Memref.isWhole_whole _) (Memref.whole main_v2) (Memref.isWhole_whole _) (Memref.whole main_v4) (Memref.isWhole_whole _) (Memref.whole main_v6) (Memref.isWhole_whole _) (Memref.whole main_v7) (Memref.isWhole_whole _) (Memref.whole main_v8) (Memref.isWhole_whole _) (Memref.whole cc0_scoped0) (Memref.isWhole_whole _) cc0_scoped1 (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) cc0_scoped7 cc0_scoped8 cc0_scoped9 cc0_scoped10 cc0_scoped11 1#32 0#32 0#32 k acc

theorem sl2_add2 (k : ℕ) : Ring.sl 2 (k + 1 + 1) = Ring.sl 2 k := by rw [show k + 1 + 1 = k + 2 from rfl, Ring.sl_add]

/-- The loop's words at trip `k + 1`, given one by one. -/
theorem words_next (k : ℕ) (a7 a8 a9 a14 a15 : BitVec 32) (e7 : a7 = w7 (k + 1)) (e8 : a8 = w8 (k + 1)) (e9 : a9 = w9 (k + 1))
    (e14 : a14 = w14 (k + 1)) (e15 : a15 = w15 (k + 1)) : ((a7, a8, a9, a9, a9, a9, a8, a14, a15) : W9) = words (k + 1) := by
  subst e7 e8 e9 e14 e15; rfl

/-- A trip that is neither the first nor the last: block `k` comes in, block `k + 1` is asked for, block `k` of the
    result is computed and sent back, block `k - 1` of the result has arrived. -/
theorem trip_mid (k : Fin k0_t1_loop.trips) (h1 : 1 ≤ k.val) (h2 : k.val + 1 < 64) (f1 f2 f3 f4 g gn W) :
    iprop(wtsP c B2 B3 B4 B5 ∗ owes (c : Thread nD τ) 0 W
      ∗ iflight c XA (Ring.sl 2 k.val) (Ring.bk 64 k.val) f1 ∗ islotP c (Ring.sl 2 (k.val + 1)) f2 ∗ icellP c (Ring.sl 2 (k.val + 1))
      ∗ xP c XA (Ring.bk 64 (k.val + 1))
      ∗ oflight c (Ring.sl 2 (k.val + 1)) (Ring.bk 64 (k.val - 1)) g f3 ∗ oslotP c (Ring.sl 2 k.val) f4 ∗ ocellP c (Ring.sl 2 k.val)
      ∗ oP c gn (Ring.bk 64 k.val))
    ⊢ wp frame (wpE (defs₀ (F := F)) 𝒱₀ (c : Thread nD τ) none) Set.univ (tripG k (words k.val)) (fun acc =>
      iprop(⌜acc = words (k.val + 1)⌝ ∗ wtsP c B2 B3 B4 B5 ∗ (∃ W, owes (c : Thread nD τ) 0 W)
        ∗ (∃ f, iflight c XA (Ring.sl 2 (k.val + 1)) (Ring.bk 64 (k.val + 1)) f) ∗ (∃ f, islotP c (Ring.sl 2 k.val) f) ∗ icellP c (Ring.sl 2 k.val)
        ∗ xP c XA (Ring.bk 64 k.val)
        ∗ (∃ f, oflight c (Ring.sl 2 k.val) (Ring.bk 64 k.val) (outAll c XA B2 B3 B4 B5) f) ∗ (∃ f, oslotP c (Ring.sl 2 (k.val + 1)) f) ∗ ocellP c (Ring.sl 2 (k.val + 1))
        ∗ oP c g (Ring.bk 64 (k.val - 1)))) := by
  have hc1 := cond1_eq k
  rw [if_pos (by omega)] at hc1
  have hc2 := cond2_eq k
  have hc5 := cond5_eq k
  have hc7 := cond7_eq k
  rw [if_neg (by omega)] at hc7
  have hk1 := chk1 k
  have hk2 := chk2 k
  have hk3 := chk3 k
  unfold wtsP
  iintro ⟨⟨H2, H3, H4, H5⟩, HW, HI, HS, HC, HX, HO, HT, HD, HN⟩
  dsimp only [tripG, words]
  sl_unfold [k0_t1_body]
  sl_exec
  sl_step
  have hv : trip_mid.sl.v98_r0 c XA k hk2 = xvec c XA (Ring.bk 64 k.val) := load_landed c XA (off9_eq k) _ _ _
  have hd : trip_mid.sl.dma23 c XA B2 B3 B4 B5 k f4 hk2 hk3 = outBlk c XA B2 B3 B4 B5 (Ring.bk 64 k.val) := by
    refine (read_oslot_store (off10_eq k) _ f4 _).trans ?_
    unfold outBlk; rw [← hv]; rfl
  isplitr
  · ipureintro; exact (words_next k.val _ _ _ _ _ (by clear * - h1 h2; revert k; decide +kernel) (by clear * - h1 h2; revert k; decide +kernel)
      (by clear * - h1 h2; revert k; decide +kernel) (by clear * - h1 h2; revert k; decide +kernel) (by clear * - h1 h2; revert k; decide +kernel))
  isplitl [H2 H3 H4 H5]
  · isplitl [H2]; · iexact H2
    isplitl [H3]; · iexact H3
    isplitl [H4]; · iexact H4
    iexact H5
  isplitl [HW]; · iexists _; iexact HW
  isplitl [HC]; · iexists f2; iexact HC
  isplitl [HI_dst]; · iexists _; iexact HI_dst
  isplitl [HI]; · iexact HI
  isplitl [HI_src]; · iexact HI_src
  isplitl [HD]
  · iexists (trip_mid.sl.HT_w1 c XA B2 B3 B4 B5 k f4 hk2 hk3)
    iapply (oflight_written c XA B2 B3 B4 B5 (Ring.sl 2 k.val) (Ring.bk 64 k.val) gn _ hd _)
    iexact HD
  isplitl [HO_src]; · iexists f3; iexact HO_src
  isplitl [HO]; · iexact HO
  iexact HO_dst

/-- The first trip: as the trips in the middle, but no block of the result is under way yet. -/
theorem trip_first (k : Fin k0_t1_loop.trips) (h1 : k.val = 0) (f1 f2 f4 gn W) :
    iprop(wtsP c B2 B3 B4 B5 ∗ owes (c : Thread nD τ) 0 W
      ∗ iflight c XA (Ring.sl 2 k.val) (Ring.bk 64 k.val) f1 ∗ islotP c (Ring.sl 2 (k.val + 1)) f2 ∗ icellP c (Ring.sl 2 (k.val + 1))
      ∗ xP c XA (Ring.bk 64 (k.val + 1))
      ∗ oslotP c (Ring.sl 2 k.val) f4 ∗ ocellP c (Ring.sl 2 k.val)
      ∗ oP c gn (Ring.bk 64 k.val))
    ⊢ wp frame (wpE (defs₀ (F := F)) 𝒱₀ (c : Thread nD τ) none) Set.univ (tripG k (words k.val)) (fun acc =>
      iprop(⌜acc = words (k.val + 1)⌝ ∗ wtsP c B2 B3 B4 B5 ∗ (∃ W, owes (c : Thread nD τ) 0 W)
        ∗ (∃ f, iflight c XA (Ring.sl 2 (k.val + 1)) (Ring.bk 64 (k.val + 1)) f) ∗ (∃ f, islotP c (Ring.sl 2 k.val) f) ∗ icellP c (Ring.sl 2 k.val)
        ∗ xP c XA (Ring.bk 64 k.val)
        ∗ (∃ f, oflight c (Ring.sl 2 k.val) (Ring.bk 64 k.val) (outAll c XA B2 B3 B4 B5) f))) := by
  have hc1 := cond1_eq k
  rw [if_pos (by omega)] at hc1
  have hc2 := cond2_eq k
  have hc5 := cond5_eq k
  have hc7 := cond7_eq k
  rw [if_pos (by omega)] at hc7
  have hn7 : ¬ k0_cond7 k (w15 k.val) = 1#1 := by rw [hc7]; decide
  have hk1 := chk1 k
  have hk2 := chk2 k
  have hk3 := chk3 k
  unfold wtsP
  iintro ⟨⟨H2, H3, H4, H5⟩, HW, HI, HS, HC, HX, HT, HD, HN⟩
  dsimp only [tripG, words]
  sl_unfold [k0_t1_body]
  sl_exec
  sl_step
  have hv : trip_first.sl.v98_r0 c XA k hk2 = xvec c XA (Ring.bk 64 k.val) := load_landed c XA (off9_eq k) _ _ _
  have hd : trip_first.sl.dma23 c XA B2 B3 B4 B5 k f4 hk2 hk3 = outBlk c XA B2 B3 B4 B5 (Ring.bk 64 k.val) := by
    refine (read_oslot_store (off10_eq k) _ f4 _).trans ?_
    unfold outBlk; rw [← hv]; rfl
  isplitr
  · ipureintro; exact (words_next k.val _ _ _ _ _ (by clear * - h1; revert k; decide +kernel) (by clear * - h1; revert k; decide +kernel)
      (by clear * - h1; revert k; decide +kernel) (by clear * - h1; revert k; decide +kernel) (by clear * - h1; revert k; decide +kernel))
  isplitl [H2 H3 H4 H5]
  · isplitl [H2]; · iexact H2
    isplitl [H3]; · iexact H3
    isplitl [H4]; · iexact H4
    iexact H5
  isplitl [HW]; · iexists _; iexact HW
  isplitl [HC]; · iexists f2; iexact HC
  isplitl [HI_dst]; · iexists _; iexact HI_dst
  isplitl [HI]; · iexact HI
  isplitl [HI_src]; · iexact HI_src
  iexists (trip_first.sl.HT_w1 c XA B2 B3 B4 B5 k f4 hk2 hk3)
  iapply (oflight_written c XA B2 B3 B4 B5 (Ring.sl 2 k.val) (Ring.bk 64 k.val) gn _ hd _)
  iexact HD

/-- The last trip: as the trips in the middle, but no further block is asked for. -/
theorem trip_last (k : Fin k0_t1_loop.trips) (h1 : k.val = 63) (f1 f3 f4 g gn W) :
    iprop(wtsP c B2 B3 B4 B5 ∗ owes (c : Thread nD τ) 0 W
      ∗ iflight c XA (Ring.sl 2 k.val) (Ring.bk 64 k.val) f1
      ∗ oflight c (Ring.sl 2 (k.val + 1)) (Ring.bk 64 (k.val - 1)) g f3 ∗ oslotP c (Ring.sl 2 k.val) f4 ∗ ocellP c (Ring.sl 2 k.val)
      ∗ oP c gn (Ring.bk 64 k.val))
    ⊢ wp frame (wpE (defs₀ (F := F)) 𝒱₀ (c : Thread nD τ) none) Set.univ (tripG k (words k.val)) (fun acc =>
      iprop(⌜acc = words (k.val + 1)⌝ ∗ wtsP c B2 B3 B4 B5 ∗ (∃ W, owes (c : Thread nD τ) 0 W)
        ∗ (∃ f, islotP c (Ring.sl 2 k.val) f) ∗ icellP c (Ring.sl 2 k.val)
        ∗ xP c XA (Ring.bk 64 k.val)
        ∗ (∃ f, oflight c (Ring.sl 2 k.val) (Ring.bk 64 k.val) (outAll c XA B2 B3 B4 B5) f) ∗ (∃ f, oslotP c (Ring.sl 2 (k.val + 1)) f) ∗ ocellP c (Ring.sl 2 (k.val + 1))
        ∗ oP c g (Ring.bk 64 (k.val - 1)))) := by
  have hc1 := cond1_eq k
  rw [if_neg (by omega)] at hc1
  have hn1 : ¬ k0_cond1 k (w15 k.val) = 1#1 := by rw [hc1]; decide
  have hc2 := cond2_eq k
  have hc5 := cond5_eq k
  have hc7 := cond7_eq k
  rw [if_neg (by omega)] at hc7
  have hk1 := chk1 k
  have hk2 := chk2 k
  have hk3 := chk3 k
  unfold wtsP
  iintro ⟨⟨H2, H3, H4, H5⟩, HW, HI, HO, HT, HD, HN⟩
  dsimp only [tripG, words]
  sl_unfold [k0_t1_body]
  sl_exec
  sl_step
  have hv : trip_last.sl.v98_r0 c XA k hk2 = xvec c XA (Ring.bk 64 k.val) := load_landed c XA (off9_eq k) _ _ _
  have hd : trip_last.sl.dma23 c XA B2 B3 B4 B5 k f4 hk2 hk3 = outBlk c XA B2 B3 B4 B5 (Ring.bk 64 k.val) := by
    refine (read_oslot_store (off10_eq k) _ f4 _).trans ?_
    unfold outBlk; rw [← hv]; rfl
  isplitr
  · ipureintro; exact (words_next k.val _ _ _ _ _ (by clear * - h1; revert k; decide +kernel) (by clear * - h1; revert k; decide +kernel)
      (by clear * - h1; revert k; decide +kernel) (by clear * - h1; revert k; decide +kernel) (by clear * - h1; revert k; decide +kernel))
  isplitl [H2 H3 H4 H5]
  · isplitl [H2]; · iexact H2
    isplitl [H3]; · iexact H3
    isplitl [H4]; · iexact H4
    iexact H5
  isplitl [HW]; · iexists _; iexact HW
  isplitl [HI_dst]; · iexists _; iexact HI_dst
  isplitl [HI]; · iexact HI
  isplitl [HI_src]; · iexact HI_src
  isplitl [HD]
  · iexists (trip_last.sl.HT_w1 c XA B2 B3 B4 B5 k f4 hk2 hk3)
    iapply (oflight_written c XA B2 B3 B4 B5 (Ring.sl 2 k.val) (Ring.bk 64 k.val) gn _ hd _)
    iexact HD
  isplitl [HO_src]; · iexists f3; iexact HO_src
  isplitl [HO]; · iexact HO
  iexact HO_dst

end Trip

end Cert.Proof.Ffn

end
-- ==== Proof.Loop.lean ====
module

public import proofs.«01_k».proof.Proof.Trip
public import Idealize.ShloMosaic.Lib.Ring.WriteBehind

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## The blocks held beside the rings -/

/-- The blocks other than `p` and `p + 1`. -/
def restSet (p : ℕ) : Finset (Fin 64) := Finset.univ.filter fun u => ¬(u.val = p ∨ u.val = p + 1)
theorem mem_restSet (p : ℕ) (u : Fin 64) : u ∈ restSet p ↔ ¬(u.val = p ∨ u.val = p + 1) := by
  simp only [restSet, Finset.mem_filter, Finset.mem_univ, true_and]

theorem sep_insert {M : Type _} [URA M] (P : Fin 64 → sProp M) {S S' : Finset (Fin 64)} (b : Fin 64) (h : b ∉ S') (e : S = insert b S') :
    bigSep S P = iprop(P b ∗ bigSep S' P) := by subst e; exact bigSep_insert h

section Sets
variable {M : Type _} [URA M] (P : Fin 64 → sProp M) (k : ℕ)

theorem home_here (h : k + 1 < 64) : bigSep (Ring.homeSet 1 k) P = iprop(P (Ring.bk 64 (k + 1)) ∗ bigSep (restSet k) P) := by
  refine sep_insert P _ (by rw [mem_restSet, Ring.bk_val h]; omega) ?_
  ext u; simp only [Finset.mem_insert, Ring.mem_homeSet, mem_restSet, Fin.ext_iff, Ring.bk_val h]; omega
theorem home_next (h : k < 64) : bigSep (Ring.homeSet 1 (k + 1)) P = iprop(P (Ring.bk 64 k) ∗ bigSep (restSet k) P) := by
  refine sep_insert P _ (by rw [mem_restSet, Ring.bk_val h]; omega) ?_
  ext u; simp only [Finset.mem_insert, Ring.mem_homeSet, mem_restSet, Fin.ext_iff, Ring.bk_val h]; omega
theorem home_last (h : k = 63) : bigSep (Ring.homeSet 1 k) P = bigSep (restSet k) P := by
  congr 1; ext u; have := u.isLt; simp only [Ring.mem_homeSet, mem_restSet]; omega
theorem home_end (h : k = 64) : bigSep (Ring.homeSet 1 k) P = bigSep Finset.univ P := by
  congr 1; ext u; have := u.isLt; simp only [Ring.mem_homeSet, Finset.mem_univ, iff_true]; omega
theorem home_first : bigSep Finset.univ P = iprop(P (Ring.bk 64 0) ∗ bigSep (Ring.homeSet 1 0) P) := by
  refine sep_insert P _ (by rw [Ring.mem_homeSet]; simp [Ring.bk]) ?_
  ext u; have := u.isLt; simp only [Finset.mem_insert, Ring.mem_homeSet, Finset.mem_univ, Fin.ext_iff, Ring.bk_val (show 0 < 64 by omega), true_iff]; omega
theorem ahead_here (h : k < 64) : bigSep (Ring.aheadSet k) P = iprop(P (Ring.bk 64 k) ∗ bigSep (Ring.aheadSet (k + 1)) P) := by
  refine sep_insert P _ (by rw [Ring.mem_aheadSet, Ring.bk_val h]; omega) ?_
  ext u; simp only [Finset.mem_insert, Ring.mem_aheadSet, Fin.ext_iff, Ring.bk_val h]; omega
theorem ahead_first : bigSep (Ring.aheadSet 0) P = bigSep Finset.univ P := by
  congr 1
theorem behind_next (h1 : 1 ≤ k) (h : k < 65) : bigSep (Ring.behindSet 1 (k + 1)) P = iprop(P (Ring.bk 64 (k - 1)) ∗ bigSep (Ring.behindSet 1 k) P) := by
  have e : (Ring.bk 64 (k - 1)).val = k - 1 := Ring.bk_val (by omega)
  refine sep_insert P _ (by rw [Ring.mem_behindSet, e]; omega) ?_
  ext u; simp only [Finset.mem_insert, Ring.mem_behindSet, Fin.ext_iff, e]; omega
theorem behind_first (h : k = 0) : bigSep (Ring.behindSet 1 (k + 1)) P = bigSep (Ring.behindSet 1 k) P := by
  congr 1; ext u; simp only [Ring.mem_behindSet]; omega
theorem behind_zero : bigSep (Ring.behindSet 1 0) P = iprop(emp) := by
  rw [show (Ring.behindSet 1 0 : Finset (Fin 64)) = ∅ from by ext u; simp [Ring.mem_behindSet]]; rfl
theorem behind_end : bigSep Finset.univ P = iprop(P 63 ∗ bigSep (Ring.behindSet 1 64) P) := by
  refine sep_insert P _ (by rw [Ring.mem_behindSet]; decide) ?_
  ext u; have := u.isLt; simp only [Finset.mem_insert, Ring.mem_behindSet, Finset.mem_univ, Fin.ext_iff, true_iff]
  show u.val = 63 ∨ _; omega

end Sets

section Loop
variable (c : Dev nD) (XA : xM.view.ty.Contents (Elt F))
  (B2 : g2M.view.ty.Contents (Elt F)) (B3 : w3M.view.ty.Contents (Elt F))
  (B4 : w4M.view.ty.Contents (Elt F)) (B5 : g5M.view.ty.Contents (Elt F))

/-! ## The loop's invariant -/

/-- The input ring's slot of trip `k` before that trip: block `k` on its way into it, or, after the last trip, free. -/
def inAt (k : ℕ) : sProp 𝕄 :=
  if k < 64 then iprop(∃ f, iflight c XA (Ring.sl 2 k) (Ring.bk 64 k) f) else iprop((∃ f, islotP c (Ring.sl 2 k) f) ∗ icellP c (Ring.sl 2 k))
/-- The output ring's other slot before trip `k`: block `k - 1` on its way out of it, or, before the first trip, free. -/
def outAt (k : ℕ) : sProp 𝕄 :=
  if k = 0 then iprop((∃ f, oslotP c (Ring.sl 2 (k + 1)) f) ∗ ocellP c (Ring.sl 2 (k + 1)))
  else iprop(∃ f, oflight c (Ring.sl 2 (k + 1)) (Ring.bk 64 (k - 1)) (outAll c XA B2 B3 B4 B5) f)
/-- What the loop holds before trip `k`. -/
def resAt (k : ℕ) : sProp 𝕄 :=
  iprop(wtsP c B2 B3 B4 B5 ∗ (∃ W, owes (c : Thread nD τ) 0 W)
    ∗ bigSep (Ring.homeSet 1 k) (xP c XA) ∗ inAt c XA k ∗ (∃ f, islotP c (Ring.sl 2 (k + 1)) f) ∗ icellP c (Ring.sl 2 (k + 1))
    ∗ outAt c XA B2 B3 B4 B5 k ∗ (∃ f, oslotP c (Ring.sl 2 k) f) ∗ ocellP c (Ring.sl 2 k)
    ∗ bigSep (Ring.aheadSet k) (fun b => iprop(∃ g, oP c g b)) ∗ bigSep (Ring.behindSet 1 k) (oP c (outAll c XA B2 B3 B4 B5)))

/-- One trip takes the invariant to the next trip's. -/
theorem trip_step (k : Fin k0_t1_loop.trips) :
    resAt c XA B2 B3 B4 B5 k.val
    ⊢ wp frame (wpE (defs₀ (F := F)) 𝒱₀ (c : Thread nD τ) none) Set.univ (tripG k (words k.val)) (fun acc =>
      iprop(⌜acc = words (k.val + 1)⌝ ∗ resAt c XA B2 B3 B4 B5 (k.val + 1))) := by
  have hk64 : k.val < 64 := trip_lt k
  unfold resAt inAt outAt
  rw [ahead_here _ k.val hk64, home_next _ k.val hk64, sl2_add2, if_pos hk64, if_neg (Nat.succ_ne_zero k.val), Nat.add_sub_cancel]
  by_cases h0 : k.val = 0
  · rw [if_pos h0, if_pos (show k.val + 1 < 64 by omega), home_here _ k.val (by omega), behind_first _ k.val h0]
    iintro ⟨Hw, ⟨%W, HW⟩, ⟨HX, HXr⟩, ⟨%f1, HI⟩, ⟨%f2, HS⟩, HC, ⟨HO1, HO2⟩, ⟨%f4, HT⟩, HD, ⟨⟨%gn, HN⟩, HA⟩, HB⟩
    iapply (wp_wand_r Idealize.ShloMosaic.frame (wpE (defs₀ (F := F)) 𝒱₀ (c : Thread nD τ) none) Set.univ)
    isplitl [Hw HW HI HS HC HX HT HD HN]
    · iapply (trip_first c XA B2 B3 B4 B5 k h0 f1 f2 f4 gn W)
      iframe
    iintro %acc ⟨%ha, Hw, HW, HI, HS, HC, HX, HF⟩
    isplitr; · ipureintro; exact ha
    iframe
  by_cases h63 : k.val = 63
  · rw [if_neg h0, if_neg (show ¬ k.val + 1 < 64 by omega), home_last _ k.val h63, behind_next _ k.val (by omega) (by omega)]
    iintro ⟨Hw, ⟨%W, HW⟩, HXr, ⟨%f1, HI⟩, ⟨%f2, HS⟩, HC, ⟨%f3, HO⟩, ⟨%f4, HT⟩, HD, ⟨⟨%gn, HN⟩, HA⟩, HB⟩
    iapply (wp_wand_r Idealize.ShloMosaic.frame (wpE (defs₀ (F := F)) 𝒱₀ (c : Thread nD τ) none) Set.univ)
    isplitl [Hw HW HI HO HT HD HN]
    · iapply (trip_last c XA B2 B3 B4 B5 k h63 f1 f3 f4 _ gn W)
      iframe
    iintro %acc ⟨%ha, Hw, HW, HS', HC', HX', HF, HT', HD', HP⟩
    isplitr; · ipureintro; exact ha
    iframe
    iexists f2; iexact HS
  · rw [if_neg h0, if_pos (show k.val + 1 < 64 by omega), home_here _ k.val (by omega), behind_next _ k.val (by omega) (by omega)]
    iintro ⟨Hw, ⟨%W, HW⟩, ⟨HX, HXr⟩, ⟨%f1, HI⟩, ⟨%f2, HS⟩, HC, ⟨%f3, HO⟩, ⟨%f4, HT⟩, HD, ⟨⟨%gn, HN⟩, HA⟩, HB⟩
    iapply (wp_wand_r Idealize.ShloMosaic.frame (wpE (defs₀ (F := F)) 𝒱₀ (c : Thread nD τ) none) Set.univ)
    isplitl [Hw HW HI HS HC HX HO HT HD HN]
    · iapply (trip_mid c XA B2 B3 B4 B5 k (by omega) (by omega) f1 f2 f3 f4 _ gn W)
      iframe
    iintro %acc ⟨%ha, Hw, HW, HI', HS', HC', HX', HF, HT', HD', HP⟩
    isplitr; · ipureintro; exact ha
    iframe

set_option warn.classDefReducibility false in
/-- The loop's invariant: the words at trip `k` and what the loop holds before it. -/
def loopInv : LoopInvTy_k0_t1 (F := F) Unit ℕ UU ℕ 𝒱₀ c none Set.univ (Memref.whole main_v0) (Memref.isWhole_whole _) (Memref.whole main_v2) (Memref.isWhole_whole _) (Memref.whole main_v4) (Memref.isWhole_whole _) (Memref.whole main_v6) (Memref.isWhole_whole _) (Memref.whole main_v7) (Memref.isWhole_whole _) (Memref.whole main_v8) (Memref.isWhole_whole _) (Memref.whole cc0_scoped0) (Memref.isWhole_whole _) cc0_scoped1 (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) cc0_scoped7 cc0_scoped8 cc0_scoped9 cc0_scoped10 cc0_scoped11 1#32 0#32 0#32 (words 0) where
  inv k acc := iprop(⌜acc = words k⌝ ∗ resAt c XA B2 B3 B4 B5 k)
  step k acc := by
    iintro ⟨%he, HR⟩
    subst he
    iapply (trip_step c XA B2 B3 B4 B5 k)
    iexact HR

end Loop

end Cert.Proof.Ffn

end
-- ==== Proof.Body.lean ====
module

public import proofs.«01_k».proof.Proof.Loop

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Body
variable (c : Dev nD) (XA : xM.view.ty.Contents (Elt F))

abbrev v2M : Memref sig .tc .hbm S1x1024 .f32 := Memref.whole main_v2
abbrev v4M : Memref sig .tc .hbm S1024x5632 .bf16 := Memref.whole main_v4
abbrev v6M : Memref sig .tc .hbm S2816x1024 .bf16 := Memref.whole main_v6
abbrev v7M : Memref sig .tc .hbm S1x1024 .f32 := Memref.whole main_v7
abbrev q2 (G : v2M.view.ty.Contents (Elt F)) : sProp 𝕄 := v2M.view.loc (c : Thread nD τ) ↦[v2M.view.set]{fullShare} G
abbrev q4 (G : v4M.view.ty.Contents (Elt F)) : sProp 𝕄 := v4M.view.loc (c : Thread nD τ) ↦[v4M.view.set]{fullShare} G
abbrev q6 (G : v6M.view.ty.Contents (Elt F)) : sProp 𝕄 := v6M.view.loc (c : Thread nD τ) ↦[v6M.view.set]{fullShare} G
abbrev q7 (G : v7M.view.ty.Contents (Elt F)) : sProp 𝕄 := v7M.view.loc (c : Thread nD τ) ↦[v7M.view.set]{fullShare} G
/-- A transfer semaphore of one cell, at zero. -/
abbrev cell (S : DmaSems sig S_) : sProp 𝕄 := semVal ((c : Thread nD τ), SemLoc.dma S.sem) 0

abbrev bodyG : Prog (TpuEff nD τ sig (Elt F) Λ₀ .tc) PUnit :=
  cc0_ffn_final (F := F) (Memref.whole main_v0) (Memref.isWhole_whole _) (Memref.whole main_v2) (Memref.isWhole_whole _) (Memref.whole main_v4) (Memref.isWhole_whole _) (Memref.whole main_v6) (Memref.isWhole_whole _) (Memref.whole main_v7) (Memref.isWhole_whole _) (Memref.whole main_v8) (Memref.isWhole_whole _) (Memref.whole cc0_scoped0) (Memref.isWhole_whole _) cc0_scoped1 (Memref.whole cc0_scoped2) (Memref.isWhole_whole _) (Memref.whole cc0_scoped3) (Memref.isWhole_whole _) (Memref.whole cc0_scoped4) (Memref.isWhole_whole _) (Memref.whole cc0_scoped5) (Memref.isWhole_whole _) (Memref.whole cc0_scoped6) (Memref.isWhole_whole _) cc0_scoped7 cc0_scoped8 cc0_scoped9 cc0_scoped10 cc0_scoped11

/-- What the copies before the loop leave in the buffers beside the rings. -/
def c2 (G : v2M.view.ty.Contents (Elt F)) : g2M.view.ty.Contents (Elt F) := g2M.view.writes (Elt F) g2M.view.junk [⟨Rect.whole S1x1024, ReadAs.same.apply (v2M.view.read (Elt F) G)⟩]
def c3 (G : v4M.view.ty.Contents (Elt F)) : w3M.view.ty.Contents (Elt F) := w3M.view.writes (Elt F) w3M.view.junk [⟨Rect.whole S1024x5632, ReadAs.same.apply (v4M.view.read (Elt F) G)⟩]
def c4 (G : v6M.view.ty.Contents (Elt F)) : w4M.view.ty.Contents (Elt F) := w4M.view.writes (Elt F) w4M.view.junk [⟨Rect.whole S2816x1024, ReadAs.same.apply (v6M.view.read (Elt F) G)⟩]
def c5 (G : v7M.view.ty.Contents (Elt F)) : g5M.view.ty.Contents (Elt F) := g5M.view.writes (Elt F) g5M.view.junk [⟨Rect.whole S1x1024, ReadAs.same.apply (v7M.view.read (Elt F) G)⟩]

variable (B2 : g2M.view.ty.Contents (Elt F)) (B3 : w3M.view.ty.Contents (Elt F))
  (B4 : w4M.view.ty.Contents (Elt F)) (B5 : g5M.view.ty.Contents (Elt F))

/-- Before the first trip: block 0 on its way in, the other blocks at home, the other slots free, no block of the
    result written. -/
theorem res_zero : iprop(wtsP c B2 B3 B4 B5 ∗ (∃ W, owes (c : Thread nD τ) 0 W)
      ∗ bigSep (Ring.homeSet 1 0) (xP c XA) ∗ (∃ f, iflight c XA 0 0 f) ∗ (∃ f, islotP c 1 f) ∗ icellP c 1
      ∗ (∃ f, oslotP c 1 f) ∗ ocellP c 1 ∗ (∃ f, oslotP c 0 f) ∗ ocellP c 0
      ∗ bigSep Finset.univ (fun b => iprop(∃ g, oP c g b))) ⊢ resAt c XA B2 B3 B4 B5 0 := by
  unfold resAt inAt outAt
  rw [ahead_first, behind_zero, if_pos (show 0 < 64 by omega), if_pos rfl, show Ring.sl 2 (0 + 1) = 1 from rfl, show Ring.sl 2 0 = 0 from rfl,
    show Ring.bk 64 0 = 0 from rfl]
  iintro ⟨Hw, HW, HX, HI, HS, HC, HT1, HD1, HT, HD, HA⟩
  iframe

/-- After the last trip: the input at home, its ring free; block 63 of the result on its way out, the others arrived. -/
theorem res_end : resAt c XA B2 B3 B4 B5 64 ⊢ iprop(wtsP c B2 B3 B4 B5 ∗ (∃ W, owes (c : Thread nD τ) 0 W)
      ∗ bigSep Finset.univ (xP c XA) ∗ (∃ f, islotP c 0 f) ∗ icellP c 0 ∗ (∃ f, islotP c 1 f) ∗ icellP c 1
      ∗ (∃ f, oflight c 1 63 (outAll c XA B2 B3 B4 B5) f) ∗ (∃ f, oslotP c 0 f) ∗ ocellP c 0
      ∗ bigSep (Ring.behindSet 1 64) (oP c (outAll c XA B2 B3 B4 B5))) := by
  unfold resAt inAt outAt
  rw [home_end _ 64 rfl, if_neg (show ¬ 64 < 64 by omega), if_neg (show ¬ 64 = 0 by omega), show Ring.sl 2 (64 + 1) = 1 from rfl, show Ring.sl 2 64 = 0 from rfl,
    show Ring.bk 64 (64 - 1) = 63 from rfl]
  iintro ⟨Hw, HW, HX, ⟨HS0, HC0⟩, HS, HC, HF, HT, HD, -, HB⟩
  iframe

theorem inv_zero : resAt c XA B2 B3 B4 B5 0 ⊢ (loopInv c XA B2 B3 B4 B5).inv 0 (words 0) := by
  show resAt c XA B2 B3 B4 B5 0 ⊢ iprop(⌜words 0 = words 0⌝ ∗ resAt c XA B2 B3 B4 B5 0)
  iintro HR
  isplitr; · ipureintro; rfl
  iexact HR
theorem inv_end (acc : W9) : (loopInv c XA B2 B3 B4 B5).inv k0_t1_loop.trips acc ⊢ iprop(⌜acc = words 64⌝ ∗ resAt c XA B2 B3 B4 B5 64) := by
  have e : k0_t1_loop.trips = 64 := trips_eq
  rw [e]; exact .rfl

/-- What the body is handed beside the operands' buffers: the blocks of the input and of the result, the rings' slots and
    semaphores. -/
def before : sProp 𝕄 :=
  iprop(bigSep Finset.univ (xP c XA) ∗ ((∃ f, islotP c 0 f) ∗ (∃ f, islotP c 1 f)) ∗ (icellP c 0 ∗ icellP c 1)
    ∗ ((∃ f, oslotP c 0 f) ∗ (∃ f, oslotP c 1 f)) ∗ (ocellP c 0 ∗ ocellP c 1)
    ∗ bigSep Finset.univ (fun b => iprop(∃ g, oP c g b)))
/-- What it hands back: the same, the result at contents `g`. -/
def behind (g : Buf (Elt F) (oM.view.loc (c : Thread nD τ))) : sProp 𝕄 :=
  iprop(bigSep Finset.univ (xP c XA) ∗ ((∃ f, islotP c 0 f) ∗ (∃ f, islotP c 1 f)) ∗ (icellP c 0 ∗ icellP c 1)
    ∗ ((∃ f, oslotP c 0 f) ∗ (∃ f, oslotP c 1 f)) ∗ (ocellP c 0 ∗ ocellP c 1)
    ∗ bigSep Finset.univ (oP c g))

/-- The kernel body: the four operands copied in, the first block asked for, the loop by its invariant, the last block of
    the result waited for. -/
theorem bodyRun (G2 : v2M.view.ty.Contents (Elt F)) (G4 : v4M.view.ty.Contents (Elt F)) (G6 : v6M.view.ty.Contents (Elt F)) (G7 : v7M.view.ty.Contents (Elt F))
    (s2 s3 s4 s5 W) :
    iprop((q2 c G2 ∗ q4 c G4 ∗ q6 c G6 ∗ q7 c G7) ∗ wtsP c s2 s3 s4 s5
      ∗ (cell c cc0_scoped8 ∗ cell c cc0_scoped9 ∗ cell c cc0_scoped10 ∗ cell c cc0_scoped11) ∗ owes (c : Thread nD τ) 0 W
      ∗ before c XA)
      ⊢ wp frame (wpE (defs₀ (F := F)) 𝒱₀ (c : Thread nD τ) none) Set.univ bodyG (fun _ =>
        iprop((q2 c G2 ∗ q4 c G4 ∗ q6 c G6 ∗ q7 c G7) ∗ wtsP c (c2 G2) (c3 G4) (c4 G6) (c5 G7)
          ∗ (cell c cc0_scoped8 ∗ cell c cc0_scoped9 ∗ cell c cc0_scoped10 ∗ cell c cc0_scoped11) ∗ (∃ W, owes (c : Thread nD τ) 0 W)
          ∗ behind c XA (outAll c XA (c2 G2) (c3 G4) (c4 G6) (c5 G7)))) := by
  unfold wtsP before
  rw [home_first, show Ring.bk 64 0 = 0 from rfl]
  iintro ⟨⟨A2, A4, A6, A7⟩, ⟨H2, H3, H4, H5⟩, ⟨C8, C9, C10, C11⟩, HW, ⟨HX, HXr⟩, ⟨⟨%f0, HS⟩, HS1⟩, ⟨HC, HC1⟩, ⟨HT0, HT1⟩, ⟨HD0, HD1⟩, HO⟩
  sl_exec
  iapply (exec_loop Idealize.ShloMosaic.frame (wpE (defs₀ (F := F)) 𝒱₀ (c : Thread nD τ) none) Set.univ k0_t1_loop.lb k0_t1_loop.ub k0_t1_loop.st k0_t1_ok _ _
    (loopInv c XA (c2 G2) (c3 G4) (c4 G6) (c5 G7))) $$ [H2 H3 H4 H5 HW HC HXr HS1 HC1 HT0 HT1 HD0 HD1 HO]
  · iapply (inv_zero c XA (c2 G2) (c3 G4) (c4 G6) (c5 G7))
    iapply (res_zero c XA (c2 G2) (c3 G4) (c4 G6) (c5 G7))
    isplitl [H2 H3 H4 H5]
    · unfold wtsP
      isplitl [H2]; · iexact H2
      isplitl [H3]; · iexact H3
      isplitl [H4]; · iexact H4
      iexact H5
    isplitl [HW]; · iexists _; iexact HW
    isplitl [HXr]; · iexact HXr
    isplitl [HC]; · iexists f0; iexact HC
    iframe
  iintro %acc HI
  ihave HI := (inv_end c XA (c2 G2) (c3 G4) (c4 G6) (c5 G7) acc) $$ [HI]
  · iexact HI
  icases HI with ⟨%he, HR⟩
  subst he
  ihave HR := (res_end c XA (c2 G2) (c3 G4) (c4 G6) (c5 G7)) $$ [HR]
  · iexact HR
  icases HR with ⟨Hw, ⟨%W', HW⟩, HX, HS0, HC0, HS1, HC1, ⟨%f, HF⟩, HT0, HD0, HB⟩
  have hk4 := chk4
  have hk5 := chk5
  dsimp only [words]
  sl_exec
  sl_step
  unfold behind
  irw [behind_end (oP c (outAll c XA (c2 G2) (c3 G4) (c4 G6) (c5 G7)))]
  unfold wtsP
  icases Hw with ⟨H2, H3, H4, H5⟩
  iframe
  isplitl [C8 C9 C10 C11]
  · isplitl [C8]; · iexact C8
    isplitl [C9]; · iexact C9
    isplitl [C10]; · iexact C10
    iexact C11
  isplitl [HW]; · iexists _; iexact HW
  isplitl [HF_src]; · iexists f; iexact HF_src
  iexact HF

end Body

end Cert.Proof.Ffn

end
-- ==== Proof.Launch.lean ====
module

public import proofs.«01_k».proof.Proof.Body
public import Idealize.ShloMosaic.Lib.Pipeline.FrameSuffixV

@[expose] public section

set_option maxRecDepth 16384

noncomputable section

namespace Cert.Proof.Ffn

open Cert.KernelIdeal Cert.KernelIdeal.Gen
open Idealize.ShloMosaic
open Idealize.ShloMosaic.Pipeline (Dat Cfg Window BodyObligation)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## The rings and the arrays, whole and in pieces -/

section Whole
variable (c : Dev nD)

theorem x_eq (XA : xM.view.ty.Contents (Elt F)) :
    (((c : Thread nD τ).loc main_v0) ↦{fullShare} XA : sProp 𝕄) = bigSep Finset.univ (xP c XA) := by
  rw [Ring.pointsTo_blocks (ℓ := (c : Thread nD τ).loc main_v0) blkSet blk_disjoint blk_cover]
  exact bigSep_congr fun b _ => by rw [← xblk_set]; rfl
theorem o_eq (g : Buf (Elt F) (oM.view.loc (c : Thread nD τ))) :
    (((c : Thread nD τ).loc main_v8) ↦{fullShare} g : sProp 𝕄) = bigSep Finset.univ (oP c g) := by
  rw [Ring.pointsTo_blocks (ℓ := (c : Thread nD τ).loc main_v8) blkSet blk_disjoint blk_cover]
  exact bigSep_congr fun b _ => by rw [← oblk_set]; rfl
theorem o_split (g : Buf (Elt F) (oM.view.loc (c : Thread nD τ))) :
    (((c : Thread nD τ).loc main_v8) ↦{fullShare} g : sProp 𝕄) ⊢ bigSep Finset.univ (fun b => iprop(∃ g, oP c g b)) := by
  rw [o_eq]
  refine bigSep_mono fun b _ => ?_
  exact (show (oP c g b : sProp 𝕄) ⊢ iprop(∃ g, oP c g b) from by iintro H; iexists g; iexact H)

theorem fin2_sep (P : Fin 2 → sProp 𝕄) : bigSep Finset.univ P = iprop(P 0 ∗ P 1) :=
  bigSep_univ_eq_bigSepL [(0 : Fin 2), (1 : Fin 2)] (by decide) (by decide) P
theorem islotP_eq (s : Fin 2) (f) : (islotP c s f : sProp 𝕄) = (((c : Thread nD τ).loc cc0_scoped0) ↦[slotSet s]{fullShare} f : sProp 𝕄) :=
  congrArg (fun S => (_ ↦[S]{fullShare} f : sProp 𝕄)) (islot_set s)
theorem oslotP_eq (s : Fin 2) (f) : (oslotP c s f : sProp 𝕄) = (((c : Thread nD τ).loc cc0_scoped6) ↦[slotSet s]{fullShare} f : sProp 𝕄) :=
  congrArg (fun S => (_ ↦[S]{fullShare} f : sProp 𝕄)) (oslot_set s)

theorem i_split (f : Buf (Elt F) ((c : Thread nD τ).loc cc0_scoped0)) :
    (((c : Thread nD τ).loc cc0_scoped0) ↦{fullShare} f : sProp 𝕄) ⊢ iprop((∃ f, islotP c 0 f) ∗ (∃ f, islotP c 1 f)) := by
  rw [Ring.pointsTo_blocks (ℓ := (c : Thread nD τ).loc cc0_scoped0) slotSet slot_disjoint slot_cover, fin2_sep]
  iintro ⟨H0, H1⟩
  isplitl [H0]
  · iexists f; iapply (entails_of_eq (islotP_eq c 0 f).symm); iexact H0
  · iexists f; iapply (entails_of_eq (islotP_eq c 1 f).symm); iexact H1
theorem i_join : iprop((∃ f, islotP c 0 f) ∗ (∃ f, islotP c 1 f))
    ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) slotSet slot_disjoint slot_cover f0)
  irw [fin2_sep]
  isplitl [H0]
  · iexists f0; iapply (entails_of_eq (islotP_eq c 0 f0)); iexact H0
  · iexists f1; iapply (entails_of_eq (islotP_eq c 1 f1)); iexact H1
theorem os_split (f : Buf (Elt F) ((c : Thread nD τ).loc cc0_scoped6)) :
    (((c : Thread nD τ).loc cc0_scoped6) ↦{fullShare} f : sProp 𝕄) ⊢ iprop((∃ f, oslotP c 0 f) ∗ (∃ f, oslotP c 1 f)) := by
  rw [Ring.pointsTo_blocks (ℓ := (c : Thread nD τ).loc cc0_scoped6) slotSet slot_disjoint slot_cover, fin2_sep]
  iintro ⟨H0, H1⟩
  isplitl [H0]
  · iexists f; iapply (entails_of_eq (oslotP_eq c 0 f).symm); iexact H0
  · iexists f; iapply (entails_of_eq (oslotP_eq c 1 f).symm); iexact H1
theorem os_join : iprop((∃ f, oslotP c 0 f) ∗ (∃ f, oslotP c 1 f))
    ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) slotSet slot_disjoint slot_cover f0)
  irw [fin2_sep]
  isplitl [H0]
  · iexists f0; iapply (entails_of_eq (oslotP_eq c 0 f0)); iexact H0
  · iexists f1; iapply (entails_of_eq (oslotP_eq c 1 f1)); iexact H1

end Whole

/-! ## The launch -/

section Launch
variable (m : (ℓ : Loc nD τ sig) → Buf (Elt F) ℓ) (ρ : Dev nD → PrngReg)

/-- The contents of the result's buffer after the kernel. -/
def OUT (c : Dev nD) : Buf (Elt F) ((c : Thread nD τ).loc main_v8) :=
  outAll c (V m c main_v0) (c2 (V m c main_v2)) (c3 (V m c main_v4)) (c4 (V m c main_v6)) (c5 (V m c main_v7))
/-- Every buffer's contents after the kernel: those before it but the result's. -/
def GV (c : Dev nD) (b : Ref sig .tc) : Buf (Elt F) ((c : Thread nD τ).loc b) :=
  if h : b = main_v8 then h ▸ OUT m c else V m c b

/-- The kernel's eight semaphores: two per ring, one per copied operand. -/
abbrev osem0 : Fin 8 → SemLoc sig := fun j => (![SemLoc.dma 0, SemLoc.dma 1, SemLoc.dma 2, SemLoc.dma 3, SemLoc.dma 4, SemLoc.dma 5, SemLoc.dma 6, SemLoc.dma 7] : Fin 8 → SemLoc sig) j
theorem ownSemFacts0 : Pipeline.OwnSemFacts cfg0.spec osem0 := by decide
theorem ownSems00_eq (c : Dev nD) :
    (Pipeline.ownSems0 (Ix := Unit) (Name := ℕ) (U := UU) (Lvl := ℕ) (Val := Elt F) (τ := τ) osem0 c : sProp 𝕄)
      = iprop(icellP c 0 ∗ icellP c 1 ∗ ocellP c 0 ∗ ocellP c 1
          ∗ cell c cc0_scoped8 ∗ cell c cc0_scoped9 ∗ cell c cc0_scoped10 ∗ cell c cc0_scoped11) := by
  rw [Pipeline.ownSems0_eq_of_list c osem0 [0, 1, 2, 3, 4, 5, 6, 7] (by decide) (by decide)]; rfl
/-- The buffers the kernel only reads. -/
def H0 : Finset (Ref sig .tc) := {main_v0, main_v2, main_v4, main_v6, main_v7}
/-- The one it writes. -/
def R0 : Finset (Ref sig .tc) := {main_v8}
theorem H0_sub : H0 ⊆ Pipeline.restRefs sig cfg0.spec := by decide
theorem R0_sub : R0 ⊆ Pipeline.restRefs sig cfg0.spec \ H0 := by decide
theorem H0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_v2) ↦{fullShare} V m c main_v2)
        ∗ (((c : Thread nD τ).loc main_v4) ↦{fullShare} V m c main_v4) ∗ (((c : Thread nD τ).loc main_v6) ↦{fullShare} V m c main_v6)
        ∗ (((c : Thread nD τ).loc main_v7) ↦{fullShare} V m c main_v7)) := by
  rw [BI.bigSep_eq_bigSepL_of_eq [main_v0, main_v2, main_v4, main_v6, main_v7] (by decide) (by decide)]; rfl
theorem R0_eq (c : Dev nD) (G : (b : Ref sig .tc) → Buf (Elt F) ((c : Thread nD τ).loc b)) :
    (bigSep R0 (fun b => ((c : Thread nD τ).loc b) ↦{fullShare} G b) : sProp 𝕄) = (((c : Thread nD τ).loc main_v8) ↦{fullShare} G main_v8) := by
  rw [BI.bigSep_eq_bigSepL_of_eq [main_v8] (by decide) (by decide)]; rfl

theorem v0_eq (c : Dev nD) : (((c : Thread nD τ).loc main_v0) ↦{fullShare} V m c main_v0 : sProp 𝕄) = bigSep Finset.univ (xP c (V m c main_v0)) := x_eq c _
theorem v2_eq (c : Dev nD) (f) : (((c : Thread nD τ).loc main_v2) ↦{fullShare} f : sProp 𝕄) = q2 c f := congrArg (fun S => (_ ↦[S]{fullShare} f : sProp 𝕄)) (View.set_whole main_v2).symm
theorem v4_eq (c : Dev nD) (f) : (((c : Thread nD τ).loc main_v4) ↦{fullShare} f : sProp 𝕄) = q4 c f := congrArg (fun S => (_ ↦[S]{fullShare} f : sProp 𝕄)) (View.set_whole main_v4).symm
theorem v6_eq (c : Dev nD) (f) : (((c : Thread nD τ).loc main_v6) ↦{fullShare} f : sProp 𝕄) = q6 c f := congrArg (fun S => (_ ↦[S]{fullShare} f : sProp 𝕄)) (View.set_whole main_v6).symm
theorem v7_eq (c : Dev nD) (f) : (((c : Thread nD τ).loc main_v7) ↦{fullShare} f : sProp 𝕄) = q7 c f := congrArg (fun S => (_ ↦[S]{fullShare} f : sProp 𝕄)) (View.set_whole main_v7).symm
theorem s2_eq (c : Dev nD) (f) : (((c : Thread nD τ).loc cc0_scoped2) ↦{fullShare} f : sProp 𝕄) = p2 c f := congrArg (fun S => (_ ↦[S]{fullShare} f : sProp 𝕄)) (View.set_whole cc0_scoped2).symm
theorem s3_eq (c : Dev nD) (f) : (((c : Thread nD τ).loc cc0_scoped3) ↦{fullShare} f : sProp 𝕄) = p3 c f := congrArg (fun S => (_ ↦[S]{fullShare} f : sProp 𝕄)) (View.set_whole cc0_scoped3).symm
theorem s4_eq (c : Dev nD) (f) : (((c : Thread nD τ).loc cc0_scoped4) ↦{fullShare} f : sProp 𝕄) = p4 c f := congrArg (fun S => (_ ↦[S]{fullShare} f : sProp 𝕄)) (View.set_whole cc0_scoped4).symm
theorem s5_eq (c : Dev nD) (f) : (((c : Thread nD τ).loc cc0_scoped5) ↦{fullShare} f : sProp 𝕄) = p5 c f := congrArg (fun S => (_ ↦[S]{fullShare} f : sProp 𝕄)) (View.set_whole cc0_scoped5).symm

/-- What the body is handed: the scratch buffers, the semaphores at zero, the operands, and the result's buffer. -/
theorem phi0_eq (c : Dev nD) (G : (c : Dev nD) → (b : Ref sig .tc) → Buf (Elt F) ((c : Thread nD τ).loc b)) :
    (Pipeline.ΦDRV osem0 cfg0.spec H0 R0 (V m) G c : sProp 𝕄)
      = iprop(((∃ f : Buf (Elt F) ((c : Thread nD τ).loc cc0_scoped0), ((c : Thread nD τ).loc cc0_scoped0) ↦{fullShare} f)
          ∗ (∃ f, p2 c f) ∗ (∃ f, p3 c f) ∗ (∃ f, p4 c f) ∗ (∃ f, p5 c f)
          ∗ (∃ f : Buf (Elt F) ((c : Thread nD τ).loc cc0_scoped6), ((c : Thread nD τ).loc cc0_scoped6) ↦{fullShare} f))
        ∗ (icellP c 0 ∗ icellP c 1 ∗ ocellP c 0 ∗ ocellP c 1
          ∗ cell c cc0_scoped8 ∗ cell c cc0_scoped9 ∗ cell c cc0_scoped10 ∗ cell c cc0_scoped11)
        ∗ (bigSep Finset.univ (xP c (V m c main_v0)) ∗ q2 c (V m c main_v2) ∗ q4 c (V m c main_v4) ∗ q6 c (V m c main_v6) ∗ q7 c (V m c main_v7))
        ∗ (((c : Thread nD τ).loc main_v8) ↦{fullShare} G c main_v8)) := by
  unfold Pipeline.ΦDRV
  rw [scopedRest0_eq, ownSems00_eq, H0_eq, R0_eq, v0_eq, v2_eq, v4_eq, v6_eq, v7_eq]
  simp only [s2_eq, s3_eq, s4_eq, s5_eq]

theorem GV_v8 (c : Dev nD) : GV m c main_v8 = OUT m c := dif_pos rfl

/-- The proof data of the launch: no window; the kernel's one call takes the result's buffer from its contents at launch to
    `OUT`. -/
def dats (_ : Fin 1) (c : Dev nD) : Dat τ (Elt F) Unit ℕ UU ℕ cfg0 c where
  A w := V m c (Pipeline.arrRef cfg0.spec w)
  after w t := w.elim0
  Φ t := Pipeline.ΦDRV osem0 cfg0.spec H0 R0 (V m) (if t.val = 0 then V m else GV m) c
  q _ := fullShare
  owed _ := 0
def bodyPre (c : Dev nD) (t : Fin cfg0.N) : sProp 𝕄 :=
  iprop((dats m 0 c).Φ t.castSucc ∗ (dats m 0 c).owesAt () t.castSucc)
def bodyPost (c : Dev nD) (t : Fin cfg0.N) : sProp 𝕄 :=
  iprop((dats m 0 c).Φ t.succ ∗ (dats m 0 c).owesAt () t.succ)

theorem sound_body (c : Dev nD) (t : Fin cfg0.N) :
    bodyPre m c t ⊢ wp frame (wpE (defs₀ (F := F)) 𝒱₀ c none) Set.univ (bodyAt0 t) (fun _ => bodyPost m c t) := by
  obtain rfl := fin_N0 t
  unfold bodyPre bodyPost
  rw [show (dats m 0 c).Φ t0_0.castSucc = Pipeline.ΦDRV osem0 cfg0.spec H0 R0 (V m) (V m) c from rfl,
    show (dats m 0 c).Φ t0_0.succ = Pipeline.ΦDRV osem0 cfg0.spec H0 R0 (V m) (GV m) c from rfl, phi0_eq, phi0_eq, GV_v8, o_eq c (OUT m c)]
  unfold Dat.owesAt Pipeline.owesWithin
  rw [show (dats m 0 c).owed t0_0.castSucc = 0 from rfl, show (dats m 0 c).owed t0_0.succ = 0 from rfl]
  iintro ⟨⟨⟨HI, ⟨%s2, S2⟩, ⟨%s3, S3⟩, ⟨%s4, S4⟩, ⟨%s5, S5⟩, HO⟩, ⟨I0, I1, O0, O1, D8, D9, D10, D11⟩, ⟨HX, Q2, Q4, Q6, Q7⟩, HR⟩, ⟨%W, -, HW⟩⟩
  icases HI with ⟨%fi, HI⟩
  icases HO with ⟨%fo, HO⟩
  iapply wp_wand $$ [HI S2 S3 S4 S5 HO I0 I1 O0 O1 D8 D9 D10 D11 HX Q2 Q4 Q6 Q7 HR HW]
  · iapply (bodyRun c (V m c main_v0) (V m c main_v2) (V m c main_v4) (V m c main_v6) (V m c main_v7) s2 s3 s4 s5 W)
    unfold before wtsP
    iframe Q2 Q4 Q6 Q7 S2 S3 S4 S5 D8 D9 D10 D11 HW HX I0 I1 O0 O1
    isplitl [HI]
    · iapply (i_split c fi); iexact HI
    isplitl [HO]
    · iapply (os_split c fo); iexact HO
    iapply (o_split c _); iexact HR
  iintro %r ⟨⟨Q2, Q4, Q6, Q7⟩, HS, ⟨D8, D9, D10, D11⟩, ⟨%W', HW'⟩, HB⟩
  unfold behind wtsP
  icases HS with ⟨S2, S3, S4, S5⟩
  icases HB with ⟨HX, HI, ⟨I0, I1⟩, HO, ⟨O0, O1⟩, HR⟩
  isplitr [HW']
  · isplitl [HI HO S2 S3 S4 S5]
    · isplitl [HI]
      · iapply (i_join c); iexact HI
      isplitl [S2]; · iexists _; iexact S2
      isplitl [S3]; · iexists _; iexact S3
      isplitl [S4]; · iexists _; iexact S4
      isplitl [S5]; · iexists _; iexact S5
      iapply (os_join c); iexact HO
    iframe I0 I1 O0 O1 D8 D9 D10 D11 HX Q2 Q4 Q6 Q7
    iexact HR
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [defs₀_row]
  refine triple_restated (sound_body m c t) rfl ?_ fun _ => ?_
  · unfold bodyPre; iintro ⟨H, HW, -⟩; iframe
  · unfold bodyPost; iintro ⟨H, HW⟩; iframe
    irw [show (Finset.univ : Finset (Fin cfg0.W)) = ∅ from rfl, BI.bigSep_empty]
    iempintro

/-- The array of result `0` after the program: the kernel's, reshaped. -/
def RES (c : Dev nD) : Buf (Elt F) ((c : Thread nD τ).loc main_v9) :=
  fun i => shapeCast S4x8192x1024 (OUT m c) shapeCasts_S32768x1024_S4x8192x1024 i

theorem T_main_v9 (c : Dev nD) :
    StableHlo.after [hostOps1].flatten (Pipeline.withArrays cfg0.spec c (Pipeline.withR (V0 m c) R0 c (GV m c)) fun w => (dats m 0 c).arrAt w cfg0.N) (Proc.devRef .tc main_v9)
      = RES m c := by
  simp only [List.flatten_cons, List.flatten_nil, List.append_nil, StableHlo.after_cons, StableHlo.after_nil]
  rw [StableHlo.reshape_result, Pipeline.withArrays_of_ne _ c _ _ main_v8 (by exact (by decide : ∀ w, Pipeline.arrRef (cfg0.spec) w ≠ main_v8)),
    Pipeline.withR_of_mem _ _ c _ main_v8 (by decide), GV_v8]
  rfl
theorem T_main_arg0 (c : Dev nD) :
    StableHlo.after [hostOps1].flatten (Pipeline.withArrays cfg0.spec c (Pipeline.withR (V0 m c) R0 c (GV m c)) fun w => (dats m 0 c).arrAt w cfg0.N) (Proc.devRef .tc main_arg0)
      = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_arg0 (by exact (by decide : ∀ w, Pipeline.arrRef (cfg0.spec) w ≠ main_arg0)),
    Pipeline.withR_of_not_mem _ _ c _ main_arg0 (by decide)]
  exact V_main_arg0 m c
theorem T_main_arg1 (c : Dev nD) :
    StableHlo.after [hostOps1].flatten (Pipeline.withArrays cfg0.spec c (Pipeline.withR (V0 m c) R0 c (GV m c)) fun w => (dats m 0 c).arrAt w cfg0.N) (Proc.devRef .tc main_arg1)
      = m ((c : Thread nD τ).loc main_arg1) := by
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_arg1 (by exact (by decide : ∀ w, Pipeline.arrRef (cfg0.spec) w ≠ main_arg1)),
    Pipeline.withR_of_not_mem _ _ c _ main_arg1 (by decide)]
  exact V_main_arg1 m c
theorem T_main_arg2 (c : Dev nD) :
    StableHlo.after [hostOps1].flatten (Pipeline.withArrays cfg0.spec c (Pipeline.withR (V0 m c) R0 c (GV m c)) fun w => (dats m 0 c).arrAt w cfg0.N) (Proc.devRef .tc main_arg2)
      = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_arg2 (by exact (by decide : ∀ w, Pipeline.arrRef (cfg0.spec) w ≠ main_arg2)),
    Pipeline.withR_of_not_mem _ _ c _ main_arg2 (by decide)]
  exact V_main_arg2 m c
theorem T_main_arg3 (c : Dev nD) :
    StableHlo.after [hostOps1].flatten (Pipeline.withArrays cfg0.spec c (Pipeline.withR (V0 m c) R0 c (GV m c)) fun w => (dats m 0 c).arrAt w cfg0.N) (Proc.devRef .tc main_arg3)
      = m ((c : Thread nD τ).loc main_arg3) := by
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_arg3 (by exact (by decide : ∀ w, Pipeline.arrRef (cfg0.spec) w ≠ main_arg3)),
    Pipeline.withR_of_not_mem _ _ c _ main_arg3 (by decide)]
  exact V_main_arg3 m c
theorem T_main_arg4 (c : Dev nD) :
    StableHlo.after [hostOps1].flatten (Pipeline.withArrays cfg0.spec c (Pipeline.withR (V0 m c) R0 c (GV m c)) fun w => (dats m 0 c).arrAt w cfg0.N) (Proc.devRef .tc main_arg4)
      = m ((c : Thread nD τ).loc main_arg4) := by
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c _ _ main_arg4 (by exact (by decide : ∀ w, Pipeline.arrRef (cfg0.spec) w ≠ main_arg4)),
    Pipeline.withR_of_not_mem _ _ c _ main_arg4 (by decide)]
  exact V_main_arg4 m c

set_option maxHeartbeats 800000 in
/-- `main` is the host lines before the kernel, the kernel, and the host lines after it. -/
theorem hmainD : Pipeline.HMainK (Ix := Unit) (Name := ℕ) (U := UU) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
set_option maxHeartbeats 800000 in
/-- The program runs: its result is `RES`, its arguments end as launched, every semaphore ends at zero. -/
theorem run_main : θ_run defs (onTc (τ := τ) (main (F := F))) ⟨m, fun _ => 0, ρ⟩ (fun r =>
    (∀ c : Dev nD, r.2.mem ((c : Thread nD τ).loc main_v9) = RES m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  Pipeline.θ_run_frame_dmaR_aroundV cfgs (dats m) (0 : Fin 1) launch0 osem0 defs₀ 𝒱₀ ownSemFacts0 H0 R0 H0_sub R0_sub m ρ main
    (hbody := fun c => (body_obligation m c).loose) (hshare := fun c w => w.elim0) (howed := fun _ _ => rfl)
    (V₀ := V0 m) (opss := [hostOps1]) (hsub := sfx_sub) (hfresh := sfx_fresh) (hkeep := sfx_keeps) (G := GV m) (hmain := hmainD m)
    (hA := fun c w => w.elim0) (hin := fun _ => .rfl) (hout := fun _ => .rfl)
    (Q' := _)
    (hQ' := fun r h => ⟨fun c => ⟨((h.1 c).2 main_v9 (Pipeline.mem_restRefs_of main_v9 (by decide) (by decide))).trans (T_main_v9 m c),
      ((h.1 c).2 main_arg0 (Pipeline.mem_restRefs_of main_arg0 (by decide) (by decide))).trans (T_main_arg0 m c),
      ((h.1 c).2 main_arg1 (Pipeline.mem_restRefs_of main_arg1 (by decide) (by decide))).trans (T_main_arg1 m c),
      ((h.1 c).2 main_arg2 (Pipeline.mem_restRefs_of main_arg2 (by decide) (by decide))).trans (T_main_arg2 m c),
      ((h.1 c).2 main_arg3 (Pipeline.mem_restRefs_of main_arg3 (by decide) (by decide))).trans (T_main_arg3 m c),
      ((h.1 c).2 main_arg4 (Pipeline.mem_restRefs_of main_arg4 (by decide) (by decide))).trans (T_main_arg4 m c)⟩, h.2⟩)

end Launch

end Cert.Proof.Ffn

end
-- ==== Proof.Math.lean ====
module

public import Idealize.ShloMosaic.Lib.Pointwise

@[expose] public section

set_option maxRecDepth 16384

noncomputable section

namespace Cert.Proof.Ffn

open Idealize.ShloMosaic

/-! The layer's last half-step and final norm on ONE row, in extended reals: as the reference computes it, as the kernel
    does, and that the two agree. -/

abbrev cN : EReal := Ideal.ofBits .f32 0x44800000#32
abbrev cE : EReal := Ideal.ofBits .f32 0x3727C5AC#32
abbrev cH : EReal := Ideal.ofBits .f32 0x3F000000#32

/-- The reciprocal root mean square of a row. -/
def rms (x : Fin 1024 → EReal) : EReal := Ideal.rsqrt (Ideal.div (∑ k, x k * x k) cN + cE)

/-- `z` times its logistic. -/
def silu (z : EReal) : EReal := z * Ideal.div 1 (1 + Ideal.exp (-z))

theorem cN_eq : cN = ((1024 : ℝ) : EReal) := by
  simp [cN, Ideal.ofBits, Ideal.ieee]; rw [← EReal.coe_mul]; norm_num
theorem cE_pos : 0 < cE := by
  simp [cE, Ideal.ofBits, Ideal.ieee]; rw [← EReal.coe_mul, ← EReal.coe_zero, EReal.coe_lt_coe_iff]; norm_num

theorem sq_nonneg (a : EReal) : 0 ≤ a * a := by
  rcases le_total 0 a with h | h
  · exact mul_nonneg h h
  · have := EReal.neg_nonneg.mpr h
    rw [← neg_mul_neg]; exact mul_nonneg this this

/-- The reciprocal root of a positive number is nonnegative and finite. -/
theorem rsqrt_pos (a : EReal) (h : 0 < a) : 0 ≤ Ideal.rsqrt a ∧ Ideal.rsqrt a ≠ ⊤ := by
  induction a with
  | bot => exact absurd h (by simp)
  | top => simp
  | coe r =>
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

theorem rms_fin (x : Fin 1024 → EReal) : 0 ≤ rms x ∧ rms x ≠ ⊤ := by
  refine rsqrt_pos _ ?_
  have h : 0 ≤ Ideal.div (∑ k, x k * x k) cN := by
    rw [cN_eq]
    unfold Ideal.div
    rw [if_neg (by norm_num)]
    exact mul_nonneg (Finset.sum_nonneg fun k _ => sq_nonneg _) (by rw [← EReal.coe_inv]; exact_mod_cast (by norm_num : (0:ℝ) ≤ (1024:ℝ)⁻¹))
  calc (0 : EReal) < cE := cE_pos
    _ = 0 + cE := (zero_add _).symm
    _ ≤ _ := add_le_add_left h _

/-- A nonnegative finite factor goes through a sum. -/
theorem mul_sum {ι : Type} (s : Finset ι) (r : EReal) (h0 : 0 ≤ r) (h1 : r ≠ ⊤) (f : ι → EReal) :
    r * ∑ k ∈ s, f k = ∑ k ∈ s, r * f k := by
  classical
  induction s using Finset.induction_on with
  | empty => simp
  | insert a s ha ih => rw [Finset.sum_insert ha, Finset.sum_insert ha, EReal.left_distrib_of_nonneg_of_ne_top h0 h1, ih]

section Row
variable (x g : Fin 1024 → EReal) (wi : Fin 1024 → Fin 5632 → EReal) (wo : Fin 2816 → Fin 1024 → EReal) (gf : Fin 1024 → EReal)

/-- A row normalised, times a gain. -/
def normed (y gf : Fin 1024 → EReal) (l : Fin 1024) : EReal := y l * rms y * gf l

/-- The reference's product of the normalised row with a column of the input weights. -/
def refDot (w : Fin 1024 → EReal) : EReal := ∑ k, normed x g k * w k
/-- The reference's activation from a gate's column and a value's. -/
def refAct (wg wu : Fin 1024 → EReal) : EReal := silu (refDot x g wg) * refDot x g wu
/-- The reference's row. -/
def refRow : Fin 1024 → EReal :=
  normed (fun l => x l + cH * ∑ j : Fin 2816, refAct x g (fun k => wi k ⟨j.val, by omega⟩) (fun k => wi k ⟨2816 + j.val, by omega⟩) * wo j l) gf

/-- The kernel's product: the row times the gain, not yet scaled. -/
def kerDot (w : Fin 1024 → EReal) : EReal := ∑ k, x k * g k * w k
/-- The kernel's activation: the gate scaled after its product, the value not scaled. -/
def kerAct (wg wu : Fin 1024 → EReal) : EReal := silu (kerDot x g wg * rms x) * kerDot x g wu
/-- The kernel's row. -/
def kerRow : Fin 1024 → EReal :=
  normed (fun l => x l + cH * rms x * ∑ j : Fin 2816, kerAct x g (fun k => wi k ⟨j.val, by omega⟩) (fun k => wi k ⟨2816 + j.val, by omega⟩) * wo j l) gf

theorem refDot_eq (w : Fin 1024 → EReal) : refDot x g w = kerDot x g w * rms x := by
  unfold refDot kerDot normed
  rw [mul_comm, mul_sum _ _ (rms_fin x).1 (rms_fin x).2]
  refine Finset.sum_congr rfl fun k _ => ?_
  ac_rfl
theorem refAct_eq (wg wu : Fin 1024 → EReal) : refAct x g wg wu = rms x * kerAct x g wg wu := by
  unfold refAct kerAct
  rw [refDot_eq, refDot_eq]
  ac_rfl
/-- The two rows agree: the reciprocal root is nonnegative and finite, so it goes through every sum. -/
theorem kerRow_eq : kerRow x g wi wo gf = refRow x g wi wo gf := by
  unfold kerRow refRow
  congr 1
  funext l
  rw [mul_assoc, mul_sum _ _ (rms_fin x).1 (rms_fin x).2]
  refine congrArg (fun t => x l + cH * t) (Finset.sum_congr rfl fun j _ => ?_)
  rw [refAct_eq, mul_assoc]

end Row

/-- A sum over 2816 positions, taken in five chunks of 512 and one of 256, in order. -/
theorem sum_chunks (f : Fin 2816 → EReal) :
    (((((∑ k : Fin 512, f ⟨k.val, by omega⟩) + ∑ k : Fin 512, f ⟨512 + k.val, by omega⟩) + ∑ k : Fin 512, f ⟨1024 + k.val, by omega⟩)
      + ∑ k : Fin 512, f ⟨1536 + k.val, by omega⟩) + ∑ k : Fin 512, f ⟨2048 + k.val, by omega⟩) + ∑ k : Fin 256, f ⟨2560 + k.val, by omega⟩
      = ∑ k : Fin 2816, f k := by
  rw [Fin.sum_univ_two_halves 2560 256 rfl f, Fin.sum_univ_two_halves 2048 512 rfl, Fin.sum_univ_two_halves 1536 512 rfl,
    Fin.sum_univ_two_halves 1024 512 rfl, Fin.sum_univ_two_halves 512 512 rfl]

end Cert.Proof.Ffn

end
-- ==== Proof.Pay.lean ====
module

public import proofs.«01_k».proof.Proof.Math
public import proofs.«01_k».proof.Proof.Value

@[expose] public section

set_option maxRecDepth 16384

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! What the body stores, read at an index. -/

section Pay
variable (x : Vec Ideal S1x512x1024 .f32) (g : Vec Ideal S1x1024 .f32) (u : FVec Ideal S512x1024 .bf16) (r : FVec Ideal S512x1 .f32)

theorem pay2_at (i : Fin 512) (k : Fin 1024) : k0_pay2 (F := Ideal) x g (ix2 i k) = x (ix3 0 i k) * g (ix2 0 k) := by
  pointwise [k0_pay2, k0_pay1]
theorem pay3_at (i : Fin 512) : k0_pay3 (F := Ideal) x (ix2 i 0) = rms (fun k => x (ix3 0 i k)) := by
  pointwise [k0_pay3, k0_pay1, rms]
/-- Row `i` of the scaled block times column `j` of the weights. -/
def dotU {n : ℕ} (i : Fin 512) (w : (⟨2, ![1024, n]⟩ : Shape).Idx → EReal) (j : Fin n) : EReal := ∑ k : Fin 1024, u (ix2 i k) * w (ix2 k j)
/-- An activation of a chunk. -/
def actU {n : ℕ} (i : Fin 512) (wg wu : (⟨2, ![1024, n]⟩ : Shape).Idx → EReal) (j : Fin n) : EReal := silu (dotU u i wg j * r (ix2 i 0)) * dotU u i wu j

theorem pay4_at (i : Fin 512) (l : Fin 1024) : k0_pay4 (F := Ideal) (ix2 i l) = 0 := by
  pointwise [k0_pay4]
theorem pay5_at (wg : Vec Ideal S1024x512 .bf16) (i j : Fin 512) :
    k0_pay5 (F := Ideal) x g wg (ix2 i j) = dotU (k0_pay2 x g) i wg j * k0_pay3 (F := Ideal) x (ix2 i 0) := by
  pointwise [k0_pay5, dotU]
theorem pay6_at (a : FVec Ideal S512x1024 .f32) (z : FVec Ideal S512x512 .f32) (wu0 : Vec Ideal S1024x512 .bf16) (wo0 : Vec Ideal S512x1024 .bf16)
    (wg wu : Vec Ideal S1024x512 .bf16) (wo : Vec Ideal S512x1024 .bf16) (i : Fin 512) (l : Fin 1024) :
    k0_pay6 (F := Ideal) u r a z wu0 wo0 wg wu wo (ix2 i l)
      = a (ix2 i l) + (∑ j : Fin 512, silu (z (ix2 i j)) * dotU u i wu0 j * wo0 (ix2 j l)) + ∑ j : Fin 512, actU u r i wg wu j * wo (ix2 j l) := by
  pointwise [k0_pay6, silu, actU, dotU]
  simp only [zero_sub]
theorem pay7_at (a : FVec Ideal S512x1024 .f32) (wg wu : Vec Ideal S1024x512 .bf16) (wo : Vec Ideal S512x1024 .bf16) (i : Fin 512) (l : Fin 1024) :
    k0_pay7 (F := Ideal) u r a wg wu wo (ix2 i l) = a (ix2 i l) + ∑ j : Fin 512, actU u r i wg wu j * wo (ix2 j l) := by
  pointwise [k0_pay7, silu, actU, dotU]
  simp only [zero_sub]
theorem pay8_at (wg wu : Vec Ideal S1024x512 .bf16) (i j : Fin 512) :
    k0_pay8 (F := Ideal) u r wg wu (ix2 i j) = actU u r i wg wu j := by
  pointwise [k0_pay8, silu, actU, dotU]
  simp only [zero_sub]
theorem pay9_at (a : FVec Ideal S512x1024 .f32) (t : FVec Ideal S512x512 .bf16) (wo0 : Vec Ideal S512x1024 .bf16)
    (wg wu : Vec Ideal S1024x512 .bf16) (wo : Vec Ideal S512x1024 .bf16) (i : Fin 512) (l : Fin 1024) :
    k0_pay9 (F := Ideal) u r a t wo0 wg wu wo (ix2 i l)
      = a (ix2 i l) + (∑ j : Fin 512, t (ix2 i j) * wo0 (ix2 j l)) + ∑ j : Fin 512, actU u r i wg wu j * wo (ix2 j l) := by
  pointwise [k0_pay9, silu, actU, dotU]
  simp only [zero_sub]
theorem pay10_at (wg : Vec Ideal S1024x256 .bf16) (i : Fin 512) (j : Fin 256) :
    k0_pay10 (F := Ideal) u r wg (ix2 i j) = dotU u i wg j * r (ix2 i 0) := by
  pointwise [k0_pay10, dotU]
theorem pay11_at (wu : Vec Ideal S1024x256 .bf16) (i : Fin 512) (j : Fin 256) :
    k0_pay11 (F := Ideal) u wu (ix2 i j) = dotU u i wu j := by
  pointwise [k0_pay11, dotU]
theorem pay12_at (wg : Vec Ideal S1024x256 .bf16) (i : Fin 512) (j : Fin 256) :
    k0_pay12 (F := Ideal) u r wg (ix2 i j) = Ideal.exp (-(dotU u i wg j * r (ix2 i 0))) := by
  pointwise [k0_pay12, k0_pay10, dotU]
  simp only [zero_sub]
theorem pay13_at (i : Fin 512) (j : Fin 256) : k0_pay13 (F := Ideal) (ix2 i j) = 1 := by
  pointwise [k0_pay13]
/-- The end of the body: the last chunk, the residual, and the final norm. -/
theorem pay14_at (h a : FVec Ideal S512x1024 .f32) (z up e o : FVec Ideal S512x256 .f32) (wo : Vec Ideal S256x1024 .bf16) (gf : Vec Ideal S1x1024 .f32) (i : Fin 512) (l : Fin 1024) :
    k0_pay14 (F := Ideal) h r a z up e o wo gf (ix3 0 i l)
      = normed (fun l => h (ix2 i l) + cH * r (ix2 i 0) * (a (ix2 i l) + ∑ j : Fin 256, z (ix2 i j) * Ideal.div 1 (o (ix2 i j) + e (ix2 i j)) * up (ix2 i j) * wo (ix2 j l)))
          (fun l => gf (ix2 0 l)) l := by
  pointwise [k0_pay14, normed, rms]

end Pay

/-! The loads of the chunks, read at an index. -/

section Load
variable (B2 : g2M.view.ty.Contents (Elt Ideal)) (B3 : w3M.view.ty.Contents (Elt Ideal))
  (B4 : w4M.view.ty.Contents (Elt Ideal)) (B5 : g5M.view.ty.Contents (Elt Ideal))

theorem gain_at (k : Fin 1024) : gain B2 (ix2 0 k) = (B2 : S1x1024.Idx → EReal) (ix2 0 k) :=
  congrArg B2 (funext fun a => Fin.ext (by match a with
    | ⟨0, _⟩ => show 0 + 1 * 0 = 0; omega
    | ⟨1, _⟩ => show 0 + 1 * k.val = k.val; omega))
theorem fgain_at (k : Fin 1024) : fgain B5 (ix2 0 k) = (B5 : S1x1024.Idx → EReal) (ix2 0 k) :=
  congrArg B5 (funext fun a => Fin.ext (by match a with
    | ⟨0, _⟩ => show 0 + 1 * 0 = 0; omega
    | ⟨1, _⟩ => show 0 + 1 * k.val = k.val; omega))
theorem wg0_at (k : Fin 1024) (j : Fin 512) : wg0 B3 (ix2 k j) = (B3 : S1024x5632.Idx → EReal) (ix2 k ⟨j.val, by omega⟩) :=
  congrArg B3 (funext fun a => Fin.ext (by match a with
    | ⟨0, _⟩ => show 0 + 1 * k.val = k.val; omega
    | ⟨1, _⟩ => show 0 + 1 * j.val = j.val; omega))
theorem wu0_at (k : Fin 1024) (j : Fin 512) : wu0 B3 (ix2 k j) = (B3 : S1024x5632.Idx → EReal) (ix2 k ⟨2816 + (j.val), by omega⟩) :=
  congrArg B3 (funext fun a => Fin.ext (by match a with
    | ⟨0, _⟩ => show 0 + 1 * k.val = k.val; omega
    | ⟨1, _⟩ => show 2816 + 1 * j.val = 2816 + (j.val); omega))
theorem wo0_at (j : Fin 512) (l : Fin 1024) : wo0 B4 (ix2 j l) = (B4 : S2816x1024.Idx → EReal) (ix2 ⟨j.val, by omega⟩ l) :=
  congrArg B4 (funext fun a => Fin.ext (by match a with
    | ⟨0, _⟩ => show 0 + 1 * j.val = j.val; omega
    | ⟨1, _⟩ => show 0 + 1 * l.val = l.val; omega))
theorem wg1_at (k : Fin 1024) (j : Fin 512) : wg1 B3 (ix2 k j) = (B3 : S1024x5632.Idx → EReal) (ix2 k ⟨512 + j.val, by omega⟩) :=
  congrArg B3 (funext fun a => Fin.ext (by match a with
    | ⟨0, _⟩ => show 0 + 1 * k.val = k.val; omega
    | ⟨1, _⟩ => show 512 + 1 * j.val = 512 + j.val; omega))
theorem wu1_at (k : Fin 1024) (j : Fin 512) : wu1 B3 (ix2 k j) = (B3 : S1024x5632.Idx → EReal) (ix2 k ⟨2816 + (512 + j.val), by omega⟩) :=
  congrArg B3 (funext fun a => Fin.ext (by match a with
    | ⟨0, _⟩ => show 0 + 1 * k.val = k.val; omega
    | ⟨1, _⟩ => show 3328 + 1 * j.val = 2816 + (512 + j.val); omega))
theorem wo1_at (j : Fin 512) (l : Fin 1024) : wo1 B4 (ix2 j l) = (B4 : S2816x1024.Idx → EReal) (ix2 ⟨512 + j.val, by omega⟩ l) :=
  congrArg B4 (funext fun a => Fin.ext (by match a with
    | ⟨0, _⟩ => show 512 + 1 * j.val = 512 + j.val; omega
    | ⟨1, _⟩ => show 0 + 1 * l.val = l.val; omega))
theorem wg2_at (k : Fin 1024) (j : Fin 512) : wg2 B3 (ix2 k j) = (B3 : S1024x5632.Idx → EReal) (ix2 k ⟨1024 + j.val, by omega⟩) :=
  congrArg B3 (funext fun a => Fin.ext (by match a with
    | ⟨0, _⟩ => show 0 + 1 * k.val = k.val; omega
    | ⟨1, _⟩ => show 1024 + 1 * j.val = 1024 + j.val; omega))
theorem wu2_at (k : Fin 1024) (j : Fin 512) : wu2 B3 (ix2 k j) = (B3 : S1024x5632.Idx → EReal) (ix2 k ⟨2816 + (1024 + j.val), by omega⟩) :=
  congrArg B3 (funext fun a => Fin.ext (by match a with
    | ⟨0, _⟩ => show 0 + 1 * k.val = k.val; omega
    | ⟨1, _⟩ => show 3840 + 1 * j.val = 2816 + (1024 + j.val); omega))
theorem wo2_at (j : Fin 512) (l : Fin 1024) : wo2 B4 (ix2 j l) = (B4 : S2816x1024.Idx → EReal) (ix2 ⟨1024 + j.val, by omega⟩ l) :=
  congrArg B4 (funext fun a => Fin.ext (by match a with
    | ⟨0, _⟩ => show 1024 + 1 * j.val = 1024 + j.val; omega
    | ⟨1, _⟩ => show 0 + 1 * l.val = l.val; omega))
theorem wg3_at (k : Fin 1024) (j : Fin 512) : wg3 B3 (ix2 k j) = (B3 : S1024x5632.Idx → EReal) (ix2 k ⟨1536 + j.val, by omega⟩) :=
  congrArg B3 (funext fun a => Fin.ext (by match a with
    | ⟨0, _⟩ => show 0 + 1 * k.val = k.val; omega
    | ⟨1, _⟩ => show 1536 + 1 * j.val = 1536 + j.val; omega))
theorem wu3_at (k : Fin 1024) (j : Fin 512) : wu3 B3 (ix2 k j) = (B3 : S1024x5632.Idx → EReal) (ix2 k ⟨2816 + (1536 + j.val), by omega⟩) :=
  congrArg B3 (funext fun a => Fin.ext (by match a with
    | ⟨0, _⟩ => show 0 + 1 * k.val = k.val; omega
    | ⟨1, _⟩ => show 4352 + 1 * j.val = 2816 + (1536 + j.val); omega))
theorem wo3_at (j : Fin 512) (l : Fin 1024) : wo3 B4 (ix2 j l) = (B4 : S2816x1024.Idx → EReal) (ix2 ⟨1536 + j.val, by omega⟩ l) :=
  congrArg B4 (funext fun a => Fin.ext (by match a with
    | ⟨0, _⟩ => show 1536 + 1 * j.val = 1536 + j.val; omega
    | ⟨1, _⟩ => show 0 + 1 * l.val = l.val; omega))
theorem wg4_at (k : Fin 1024) (j : Fin 512) : wg4 B3 (ix2 k j) = (B3 : S1024x5632.Idx → EReal) (ix2 k ⟨2048 + j.val, by omega⟩) :=
  congrArg B3 (funext fun a => Fin.ext (by match a with
    | ⟨0, _⟩ => show 0 + 1 * k.val = k.val; omega
    | ⟨1, _⟩ => show 2048 + 1 * j.val = 2048 + j.val; omega))
theorem wu4_at (k : Fin 1024) (j : Fin 512) : wu4 B3 (ix2 k j) = (B3 : S1024x5632.Idx → EReal) (ix2 k ⟨2816 + (2048 + j.val), by omega⟩) :=
  congrArg B3 (funext fun a => Fin.ext (by match a with
    | ⟨0, _⟩ => show 0 + 1 * k.val = k.val; omega
    | ⟨1, _⟩ => show 4864 + 1 * j.val = 2816 + (2048 + j.val); omega))
theorem wo4_at (j : Fin 512) (l : Fin 1024) : wo4 B4 (ix2 j l) = (B4 : S2816x1024.Idx → EReal) (ix2 ⟨2048 + j.val, by omega⟩ l) :=
  congrArg B4 (funext fun a => Fin.ext (by match a with
    | ⟨0, _⟩ => show 2048 + 1 * j.val = 2048 + j.val; omega
    | ⟨1, _⟩ => show 0 + 1 * l.val = l.val; omega))
theorem wg5_at (k : Fin 1024) (j : Fin 256) : wg5 B3 (ix2 k j) = (B3 : S1024x5632.Idx → EReal) (ix2 k ⟨2560 + j.val, by omega⟩) :=
  congrArg B3 (funext fun a => Fin.ext (by match a with
    | ⟨0, _⟩ => show 0 + 1 * k.val = k.val; omega
    | ⟨1, _⟩ => show 2560 + 1 * j.val = 2560 + j.val; omega))
theorem wu5_at (k : Fin 1024) (j : Fin 256) : wu5 B3 (ix2 k j) = (B3 : S1024x5632.Idx → EReal) (ix2 k ⟨2816 + (2560 + j.val), by omega⟩) :=
  congrArg B3 (funext fun a => Fin.ext (by match a with
    | ⟨0, _⟩ => show 0 + 1 * k.val = k.val; omega
    | ⟨1, _⟩ => show 5376 + 1 * j.val = 2816 + (2560 + j.val); omega))
theorem wo5_at (j : Fin 256) (l : Fin 1024) : wo5 B4 (ix2 j l) = (B4 : S2816x1024.Idx → EReal) (ix2 ⟨2560 + j.val, by omega⟩ l) :=
  congrArg B4 (funext fun a => Fin.ext (by match a with
    | ⟨0, _⟩ => show 2560 + 1 * j.val = 2560 + j.val; omega
    | ⟨1, _⟩ => show 0 + 1 * l.val = l.val; omega))

variable (x : Vec Ideal S1x512x1024 .f32)

/-- The block of the result, read at a row: the kernel's row of the block's row. -/
theorem outVec_at (i : Fin 512) (l : Fin 1024) :
    outVec B2 B3 B4 B5 x (ix3 0 i l)
      = kerRow (fun k => x (ix3 0 i k)) (fun k => (B2 : S1x1024.Idx → EReal) (ix2 0 k)) (fun k j => (B3 : S1024x5632.Idx → EReal) (ix2 k j))
          (fun j l => (B4 : S2816x1024.Idx → EReal) (ix2 j l)) (fun l => (B5 : S1x1024.Idx → EReal) (ix2 0 l)) l := by
  unfold outVec kerRow
  rw [pay14_at]
  simp only [fgain_at]
  congr 1
  funext l
  have hu : ∀ k, uOf B2 x (ix2 i k) = x (ix3 0 i k) * (B2 : S1x1024.Idx → EReal) (ix2 0 k) := fun k => by
    unfold uOf; rw [pay2_at, gain_at]
  have hr : rOf x (ix2 i 0) = rms (fun k => x (ix3 0 i k)) := pay3_at x i
  simp only [acc4, acc2, acc1, act3, pay9_at, pay8_at, pay7_at, pay6_at, pay5_at, pay4_at, pay10_at, pay11_at, pay12_at, pay13_at, actU]
  rw [show k0_pay1 (F := Ideal) x (ix2 i l) = x (ix3 0 i l) from by pointwise [k0_pay1]]
  rw [hr, ← sum_chunks]
  simp only [kerAct, kerDot, dotU, hu, hr, pay2_at, pay3_at, gain_at, silu, zero_add, wg0_at, wu0_at, wo0_at, wg1_at, wu1_at, wo1_at, wg2_at, wu2_at, wo2_at, wg3_at, wu3_at, wo3_at, wg4_at, wu4_at, wo4_at, wg5_at, wu5_at, wo5_at]

end Load

end Cert.Proof.Ffn

end
-- ==== Proof.Result.lean ====
module

public import proofs.«01_k».proof.Proof.Pay
public import proofs.«01_k».proof.Proof.Launch
public import Idealize.ShloMosaic.Lib.Pointwise

@[expose] public section

set_option maxRecDepth 16384

noncomputable section

namespace Cert.Proof.Ffn

open Cert.KernelIdeal Cert.KernelIdeal.Gen
open Idealize.ShloMosaic Idealize.ShloMosaic.TcCoe Idealize.SL.Sem

/-! The kernel's result read at an index: the row function `kerRow` of `Math.lean` at the arguments' rows. -/

section Whole
variable (m : (ℓ : Loc nD τ sig) → Buf (Elt Ideal) ℓ) (c : Dev nD)

/-- What the host lines before the kernel leave in its operands. -/
theorem V_v0 : V m c main_v0 = shapeCast S32768x1024 (m ((c.tc : Thread nD τ).loc main_arg0) : FVec Ideal S4x8192x1024 .f32) shapeCasts_S4x8192x1024_S32768x1024 := by
  unfold V V0 hostOps0; after_results; rfl
theorem V_v2 : V m c main_v2 = shapeCast S1x1024 (shapeCast S1024 (m ((c.tc : Thread nD τ).loc main_arg1) : FVec Ideal S1x1024 .f32) shapeCasts_S1x1024_S1024) shapeCasts_S1024_S1x1024 := by
  unfold V V0 hostOps0; after_results; rfl
theorem V_v4 : V m c main_v4 = truncf (F := Ideal) .bf16 (shapeCast S1024x5632 (m ((c.tc : Thread nD τ).loc main_arg2) : FVec Ideal S1x1024x5632 .f32) shapeCasts_S1x1024x5632_S1024x5632) bitsLt_bf16_f32 := by
  unfold V V0 hostOps0; after_results; rfl
theorem V_v6 : V m c main_v6 = truncf (F := Ideal) .bf16 (shapeCast S2816x1024 (m ((c.tc : Thread nD τ).loc main_arg3) : FVec Ideal S1x2816x1024 .f32) shapeCasts_S1x2816x1024_S2816x1024) bitsLt_bf16_f32 := by
  unfold V V0 hostOps0; after_results; rfl
theorem V_v7 : V m c main_v7 = shapeCast S1x1024 (m ((c.tc : Thread nD τ).loc main_arg4) : FVec Ideal S1024 .f32) shapeCasts_S1024_S1x1024 := by
  unfold V V0 hostOps0; after_results; rfl

/-- A buffer copied whole holds what it was copied from. -/
theorem c2_eq (G : FVec Ideal S1x1024 .f32) : c2 (F := Ideal) G = G := by
  unfold c2
  refine Eq.trans (View.read_whole cc0_scoped2 _).symm ?_
  exact View.read_writes_whole _ _ _
theorem c3_eq (G : FVec Ideal S1024x5632 .bf16) : c3 (F := Ideal) G = G := by
  unfold c3
  refine Eq.trans (View.read_whole cc0_scoped3 _).symm ?_
  exact View.read_writes_whole _ _ _
theorem c4_eq (G : FVec Ideal S2816x1024 .bf16) : c4 (F := Ideal) G = G := by
  unfold c4
  refine Eq.trans (View.read_whole cc0_scoped4 _).symm ?_
  exact View.read_writes_whole _ _ _
theorem c5_eq (G : FVec Ideal S1x1024 .f32) : c5 (F := Ideal) G = G := by
  unfold c5
  refine Eq.trans (View.read_whole cc0_scoped5 _).symm ?_
  exact View.read_writes_whole _ _ _

/-- A row of block `b` of the input. -/
theorem xvec_at (XA : FVec Ideal S32768x1024 .f32) (b : Fin 64) (i : Fin 512) (k : Fin 1024) :
    xvec (F := Ideal) c XA b (ix3 0 i k) = XA (ix2 ⟨512 * b.val + i.val, by omega⟩ k) := by
  have h : ∀ X : FVec Ideal S512x1024 .f32, (shapeCast S1x512x1024 X (by decide)) (ix3 0 i k) = X (ix2 i k) := fun X => by pointwise
  refine (h _).trans ?_
  refine congrArg XA (funext fun a => Fin.ext ?_)
  match a with
  | ⟨0, _⟩ => show 512 * b.val + 1 * i.val = 512 * b.val + i.val; omega
  | ⟨1, _⟩ => show 0 + 1 * k.val = k.val; omega

/-- A row of the result. -/
theorem outAll_at (XA : FVec Ideal S32768x1024 .f32) (B2 : g2M.view.ty.Contents (Elt Ideal)) (B3 : w3M.view.ty.Contents (Elt Ideal))
    (B4 : w4M.view.ty.Contents (Elt Ideal)) (B5 : g5M.view.ty.Contents (Elt Ideal)) (R : Fin 32768) (l : Fin 1024) :
    outAll (F := Ideal) c XA B2 B3 B4 B5 (ix2 R l)
      = kerRow (fun k => XA (ix2 R k)) (fun k => B2 (ix2 0 k)) (fun k j => B3 (ix2 k j)) (fun j l => B4 (ix2 j l)) (fun l => B5 (ix2 0 l)) l := by
  have hR := R.isLt
  have h : ∀ (Y : FVec Ideal S1x512x1024 .f32) (i : Fin 512), (shapeCast S512x1024 Y (by decide)) (ix2 i l) = Y (ix3 0 i l) := fun Y i => by pointwise
  have hb : inBlk (ix2 R l) = ix2 (⟨R.val % 512, Nat.mod_lt _ (by decide)⟩ : Fin 512) l := by
    funext a; match a with | ⟨0, _⟩ => rfl | ⟨1, _⟩ => rfl
  unfold outAll outBlk
  rw [hb, h, outVec_at]
  congr 1
  funext k
  rw [xvec_at]
  refine congrArg (fun r => XA (ix2 r k)) (Fin.ext ?_)
  show 512 * (R.val / 512) + R.val % 512 = R.val
  omega

/-- The kernel's result at an index is `kerRow` of its arguments. -/
theorem res_at (b : Fin 4) (s : Fin 8192) (l : Fin 1024) :
    (RES (F := Ideal) m c : FVec Ideal S4x8192x1024 .f32) (ix3 b s l)
      = kerRow (fun k => (m ((c.tc : Thread nD τ).loc main_arg0) : FVec Ideal S4x8192x1024 .f32) (ix3 b s k))
          (fun k => (m ((c.tc : Thread nD τ).loc main_arg1) : FVec Ideal S1x1024 .f32) (ix2 0 k))
          (fun k j => (m ((c.tc : Thread nD τ).loc main_arg2) : FVec Ideal S1x1024x5632 .f32) (ix3 0 k j))
          (fun j l => (m ((c.tc : Thread nD τ).loc main_arg3) : FVec Ideal S1x2816x1024 .f32) (ix3 0 j l))
          (fun l => (m ((c.tc : Thread nD τ).loc main_arg4) : FVec Ideal S1024 .f32) (ix1 l)) l := by
  have h : ∀ Y : FVec Ideal S32768x1024 .f32, (shapeCast S4x8192x1024 Y shapeCasts_S32768x1024_S4x8192x1024) (ix3 b s l)
      = Y (ix2 ⟨b.val * 8192 + s.val, by omega⟩ l) := fun Y => by pointwise
  refine (h _).trans ?_
  unfold OUT
  refine (outAll_at c _ _ _ _ _ _ l).trans ?_
  rw [c2_eq, c3_eq, c4_eq, c5_eq, V_v0, V_v2, V_v4, V_v6, V_v7]
  have e0 : ∀ (Y : FVec Ideal S4x8192x1024 .f32) (k : Fin 1024), (shapeCast S32768x1024 Y shapeCasts_S4x8192x1024_S32768x1024)
      (ix2 ⟨b.val * 8192 + s.val, by omega⟩ k) = Y (ix3 b s k) := fun Y k => by
    pointwise
  have e1 : ∀ (Y : FVec Ideal S1x1024 .f32) (k : Fin 1024), (shapeCast S1x1024 (shapeCast S1024 Y shapeCasts_S1x1024_S1024) shapeCasts_S1024_S1x1024) (ix2 0 k) = Y (ix2 0 k) := fun Y k => by pointwise
  have e2 : ∀ (Y : FVec Ideal S1x1024x5632 .f32) (k : Fin 1024) (j : Fin 5632), (truncf .bf16 (shapeCast S1024x5632 Y shapeCasts_S1x1024x5632_S1024x5632) bitsLt_bf16_f32) (ix2 k j) = Y (ix3 0 k j) := fun Y k j => by pointwise
  have e3 : ∀ (Y : FVec Ideal S1x2816x1024 .f32) (k : Fin 2816) (j : Fin 1024), (truncf .bf16 (shapeCast S2816x1024 Y shapeCasts_S1x2816x1024_S2816x1024) bitsLt_bf16_f32) (ix2 k j) = Y (ix3 0 k j) := fun Y k j => by pointwise
  have e4 : ∀ (Y : FVec Ideal S1024 .f32) (k : Fin 1024), (shapeCast S1x1024 Y shapeCasts_S1024_S1x1024) (ix2 0 k) = Y (ix1 k) := fun Y k => by pointwise
  simp only [e0, e1, e2, e3, e4]

end Whole

end Cert.Proof.Ffn
-- ==== Proof.RefRow.lean ====
module

public import proofs.«01_k».proof.Proof.Math
public import proofs.«01_k».proof.Proof.Gen.ReferenceIdeal.Run
public import Idealize.ShloMosaic.Lib.Pointwise

@[expose] public section

set_option maxRecDepth 16384

noncomputable section

namespace Cert.Proof.Ffn.Ref

open Cert.ReferenceIdeal Cert.ReferenceIdeal.Gen
open Idealize.ShloMosaic Idealize.ShloMosaic.TcCoe Idealize.SL.Sem

/-! The reference's result read at an index: the row function `refRow` of `Math.lean` at the arguments' rows. -/

/-- The reference's RMS norm, as it is printed. -/
def nrm (X : FVec Ideal S4x8192x1024 .f32) (g : FVec Ideal S1024 .f32) : FVec Ideal S4x8192x1024 .f32 :=
  mulf (mulf X (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf X X) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x3727C5AC#32))))))
    (broadcastInDim S4x8192x1024 ![0, 1, 2] bcast_S1x1x1024_S4x8192x1024_0_1_2
      (broadcastInDim S1x1x1024 ![2] bcast_S1024_S1x1x1024_2 g))
/-- Its input projection. -/
def proj (X : FVec Ideal S4x8192x1024 .f32) (W : FVec Ideal S1x1024x5632 .f32) : FVec Ideal S4x8192x5632 .f32 :=
  Host.dotGeneral dot_S4x8192x1024_S1024x5632_S4x8192x5632_2_0_01_1_n_n none X
    (shapeCast S1024x5632 W shapeCasts_S1x1024x5632_S1024x5632)
/-- Its gate. -/
def gate (D : FVec Ideal S4x8192x5632 .f32) : FVec Ideal S4x8192x2816 .f32 :=
  extractStridedSlice S4x8192x2816 ![0, 0, 0] D slices_S4x8192x5632_S4x8192x2816_0_0_0
/-- Its activation. -/
def act (D : FVec Ideal S4x8192x5632 .f32) : FVec Ideal S4x8192x2816 .f32 :=
  mulf (mulf (gate D) (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf (gate D))))))
    (extractStridedSlice S4x8192x2816 ![0, 0, 2816] D slices_S4x8192x5632_S4x8192x2816_0_0_2816)
/-- Its residual sum. -/
def res (X : FVec Ideal S4x8192x1024 .f32) (A : FVec Ideal S4x8192x2816 .f32) (W : FVec Ideal S1x2816x1024 .f32) :
    FVec Ideal S4x8192x1024 .f32 :=
  addf X (mulf (broadcastInDim S4x8192x1024 ![] bcast_S_S4x8192x1024 (constant S_ .f32 0x3F000000#32))
    (Host.dotGeneral dot_S4x8192x2816_S2816x1024_S4x8192x1024_2_0_01_1_n_n none A
      (shapeCast S2816x1024 W shapeCasts_S1x2816x1024_S2816x1024)))

set_option maxHeartbeats 2000000 in
/-- The reference's printed result is these pieces put together. -/
theorem res_pieces (m : (ℓ : Loc nD τ sig) → Buf (Elt Ideal) ℓ) (c : Dev nD) :
    Value.res_main_v37 (F := Ideal) m c
      = nrm (res (m ((c.tc : Thread nD τ).loc main_arg0)) (act (proj (nrm (m ((c.tc : Thread nD τ).loc main_arg0)) (shapeCast S1024 (m ((c.tc : Thread nD τ).loc main_arg1) : FVec Ideal S1x1024 .f32) shapeCasts_S1x1024_S1024))
          (m ((c.tc : Thread nD τ).loc main_arg2)))) (m ((c.tc : Thread nD τ).loc main_arg3))) (m ((c.tc : Thread nD τ).loc main_arg4)) := by
  unfold Value.res_main_v37 nrm res act proj gate
  rfl

section At
variable (X : FVec Ideal S4x8192x1024 .f32) (g : FVec Ideal S1024 .f32) (b : Fin 4) (s : Fin 8192)

theorem nrm_at (l : Fin 1024) : nrm X g (ix3 b s l) = normed (fun k => X (ix3 b s k)) (fun k => g (ix1 k)) l := by
  pointwise [nrm]
  simp only [normed, rms, zero_add]
theorem proj_at (W : FVec Ideal S1x1024x5632 .f32) (j : Fin 5632) :
    proj X W (ix3 b s j) = ∑ k : Fin 1024, X (ix3 b s k) * W (ix3 0 k j) := by
  pointwise [proj]
theorem act_at (D : FVec Ideal S4x8192x5632 .f32) (j : Fin 2816) :
    act D (ix3 b s j) = silu (D (ix3 b s ⟨j.val, by omega⟩)) * D (ix3 b s ⟨2816 + j.val, by omega⟩) := by
  pointwise [act, gate]
  simp only [silu]
theorem res_at (A : FVec Ideal S4x8192x2816 .f32) (W : FVec Ideal S1x2816x1024 .f32) (l : Fin 1024) :
    res X A W (ix3 b s l) = X (ix3 b s l) + cH * ∑ j : Fin 2816, A (ix3 b s j) * W (ix3 0 j l) := by
  pointwise [res]
end At

/-- The reference's result at an index is `refRow` of its arguments. -/
theorem ref_at (m : (ℓ : Loc nD τ sig) → Buf (Elt Ideal) ℓ) (c : Dev nD) (b : Fin 4) (s : Fin 8192) (l : Fin 1024) :
    (Value.res_main_v37 (F := Ideal) m c : FVec Ideal S4x8192x1024 .f32) (ix3 b s l)
      = refRow (fun k => (m ((c.tc : Thread nD τ).loc main_arg0) : FVec Ideal S4x8192x1024 .f32) (ix3 b s k))
          (fun k => (m ((c.tc : Thread nD τ).loc main_arg1) : FVec Ideal S1x1024 .f32) (ix2 0 k))
          (fun k j => (m ((c.tc : Thread nD τ).loc main_arg2) : FVec Ideal S1x1024x5632 .f32) (ix3 0 k j))
          (fun j l => (m ((c.tc : Thread nD τ).loc main_arg3) : FVec Ideal S1x2816x1024 .f32) (ix3 0 j l))
          (fun l => (m ((c.tc : Thread nD τ).loc main_arg4) : FVec Ideal S1024 .f32) (ix1 l)) l := by
  rw [res_pieces]
  have hg : ∀ k : Fin 1024, (shapeCast S1024 (m ((c.tc : Thread nD τ).loc main_arg1) : FVec Ideal S1x1024 .f32) shapeCasts_S1x1024_S1024) (ix1 k)
      = (m ((c.tc : Thread nD τ).loc main_arg1) : FVec Ideal S1x1024 .f32) (ix2 0 k) := fun k => by pointwise
  simp only [nrm_at, res_at, act_at, proj_at, hg]
  rfl

end Cert.Proof.Ffn.Ref
-- ==== Proof.HalfPay.lean ====
module

public import proofs.«01_k».proof.Proof.Math
public import proofs.«01_k».proof.Proof.Gen.Kernel2Ideal.Skeleton
public import Idealize.ShloMosaic.Lib.Pointwise

@[expose] public section

set_option maxRecDepth 16384

noncomputable section

namespace Cert.Proof.Half

open Cert.Kernel2Ideal Cert.Kernel2Ideal.Gen
open Cert.Proof.Ffn
open Idealize.ShloMosaic Idealize.ShloMosaic.TcCoe Idealize.SL.Sem

/-! What the first half-step's body stores, read at an index. -/

section Swiglu
variable (x : Vec Ideal S512x1024 .f32) (g : Vec Ideal S1x1024 .f32) (u : FVec Ideal S512x1024 .bf16) (i : Fin 512) (l : Fin 1024)

/-- Row `i` of the normalised block times column `j` of the weights. -/
def dotN {n : ℕ} (w : (⟨2, ![1024, n]⟩ : Shape).Idx → EReal) (j : Fin n) : EReal := ∑ k : Fin 1024, u (ix2 i k) * w (ix2 k j)
/-- An activation of a chunk. -/
def actN {n : ℕ} (wg wu : (⟨2, ![1024, n]⟩ : Shape).Idx → EReal) (j : Fin n) : EReal := silu (dotN u i wg j) * dotN u i wu j

theorem pay3_at : k0_pay3 (F := Ideal) x (ix2 i l) = x (ix2 i l) := by
  pointwise [k0_pay3]
theorem pay4_at : k0_pay4 (F := Ideal) x g (ix2 i l) = normed (fun k => x (ix2 i k)) (fun k => g (ix2 0 k)) l := by
  pointwise [k0_pay4, k0_pay3, normed, rms]
theorem pay5_at (wg wu : Vec Ideal S1024x512 .f32) (wo : Vec Ideal S512x1024 .f32) :
    k0_pay5 (F := Ideal) x g wg wu wo (ix2 i l) = ∑ j : Fin 512, actN (k0_pay4 x g) i wg wu j * wo (ix2 j l) := by
  pointwise [k0_pay5, silu, actN, dotN]
  simp only [zero_sub, zero_add]
theorem pay6_at (a : FVec Ideal S512x1024 .f32) (wg wu : Vec Ideal S1024x512 .f32) (wo : Vec Ideal S512x1024 .f32) :
    k0_pay6 (F := Ideal) u a wg wu wo (ix2 i l) = a (ix2 i l) + ∑ j : Fin 512, actN u i wg wu j * wo (ix2 j l) := by
  pointwise [k0_pay6, silu, actN, dotN]
  simp only [zero_sub]
theorem pay7_at (wg wu : Vec Ideal S1024x512 .f32) (j : Fin 512) :
    k0_pay7 (F := Ideal) u wg wu (ix2 i j) = actN u i wg wu j := by
  pointwise [k0_pay7, silu, actN, dotN]
  simp only [zero_sub]
theorem pay8_at (wo : Vec Ideal S512x1024 .f32) : k0_pay8 (F := Ideal) wo (ix2 i l) = wo (ix2 i l) := by
  pointwise [k0_pay8]
theorem pay9_at (a : FVec Ideal S512x1024 .f32) (t : FVec Ideal S512x512 .bf16) (wo0 : FVec Ideal S512x1024 .f32)
    (wg wu : Vec Ideal S1024x512 .f32) (wo : Vec Ideal S512x1024 .f32) :
    k0_pay9 (F := Ideal) u a t wo0 wg wu wo (ix2 i l)
      = a (ix2 i l) + (∑ j : Fin 512, t (ix2 i j) * wo0 (ix2 j l)) + ∑ j : Fin 512, actN u i wg wu j * wo (ix2 j l) := by
  pointwise [k0_pay9, silu, actN, dotN]
  simp only [zero_sub]
theorem pay10_at (wg wu : Vec Ideal S1024x512 .f32) (j : Fin 512) :
    k0_pay10 (F := Ideal) u wg wu (ix2 i j) = actN u i wg wu j := by
  pointwise [k0_pay10, silu, actN, dotN]
  simp only [zero_sub]
/-- The end of the half-step: the last two chunks, and the residual. -/
theorem pay11_at (h a : FVec Ideal S512x1024 .f32) (t : FVec Ideal S512x512 .bf16) (wo0 : Vec Ideal S512x1024 .f32)
    (wg wu : Vec Ideal S1024x256 .f32) (wo : Vec Ideal S256x1024 .f32) :
    k0_pay11 (F := Ideal) h u a t wo0 wg wu wo (ix2 i l)
      = h (ix2 i l) + cH * (a (ix2 i l) + (∑ j : Fin 512, t (ix2 i j) * wo0 (ix2 j l)) + ∑ j : Fin 256, actN u i wg wu j * wo (ix2 j l)) := by
  pointwise [k0_pay11, silu, actN, dotN]
  simp only [zero_sub]

end Swiglu

section Table
variable (f : Vec Ideal S128x1 .f32) (p : Vec Ideal S1x1x512 .i32) (a : FVec Ideal S128x512 .f32) (i : Fin 512) (l : Fin 128)

theorem pay19_at : k0_pay19 (F := Ideal) f p (ix2 l i) = f (ix2 l 0) * FloatOps.sitofp (F := Ideal) .f32 (p (ix3 0 0 i)) := by
  pointwise [k0_pay19]
theorem pay1_at : k0_pay1 (F := Ideal) a (ix2 i l) = Ideal.cos (a (ix2 l i)) := by
  pointwise [k0_pay1]
/-- The kernel's test that lane `l` lies in the first half of its head. -/
def lowLane (l : Fin 128) : BitVec 1 :=
  let n : BitVec 32 := Scalar.select (Scalar.cmpi .eq 64#32 0#32) 1#32 64#32
  let r : BitVec 32 := IntOp.remsi .vector (BitVec.ofNat 32 l.val) n
  IntOp.cmpi .slt
    (Scalar.select (IntOp.andi (IntOp.xori (IntOp.cmpi .slt r 0#32) (Scalar.cmpi .slt n 0#32)) (IntOp.cmpi .ne r 0#32))
      (IntOp.addi r n) r) 32#32
theorem lowLane_eq : ∀ l : Fin 128, lowLane l = if l.val % 64 < 32 then 1#1 else 0#1 := by decide +kernel
theorem pay2_at : k0_pay2 (F := Ideal) a (iota .tc S128x512 32 [0] iota_S128x512_d0_w32)
      (Scalar.select (Scalar.cmpi .eq 64#32 0#32) 1#32 64#32) (ix2 i l)
      = if l.val % 64 < 32 then -Ideal.sin (a (ix2 l i)) else Ideal.sin (a (ix2 l i)) := by
  pointwise [k0_pay2]
  refine (congrArg (fun c => Scalar.select c (0 - Ideal.sin (a (ix2 l i))) (Ideal.sin (a (ix2 l i)))) (lowLane_eq l)).trans ?_
  rw [zero_sub]
  split <;> rfl
end Table

end Cert.Proof.Half

end
-- ==== Proof.HalfOut.lean ====
module

public import proofs.«01_k».proof.Proof.HalfPay
public import proofs.«01_k».proof.Proof.Gen.Kernel2Ideal.Frame
public import proofs.«01_k».proof.Proof.Gen.Kernel2Ideal.Value
public import Idealize.ShloMosaic.Lib.Pipeline.ValueKit

@[expose] public section

set_option maxRecDepth 16384

noncomputable section

namespace Cert.Proof.Half

open Cert.Kernel2Ideal Cert.Kernel2Ideal.Gen
open Cert.Proof.Ffn
open Idealize.ShloMosaic Idealize.ShloMosaic.TcCoe Idealize.SL.Sem

/-! The blocks the first half-step's body leaves in its output windows, read at an index. -/

/-- A row plus half of its SwiGLU image. -/
def halfRow (x g : Fin 1024 → EReal) (wi : Fin 1024 → Fin 5632 → EReal) (wo : Fin 2816 → Fin 1024 → EReal) (l : Fin 1024) : EReal :=
  x l + cH * ∑ j : Fin 2816, refAct x g (fun k => wi k ⟨j.val, by omega⟩) (fun k => wi k ⟨2816 + j.val, by omega⟩) * wo j l

/-- The entry of the rotary table at lane `l` for the angle `a` (a frequency times a position). -/
def tableAt (l : Fin 256) (a : EReal) : EReal :=
  if l.val < 128 then Ideal.cos a else if l.val % 64 < 32 then -Ideal.sin a else Ideal.sin a

section Out
variable (x0 : Vec Ideal S512x1024 .f32) (x1 : Vec Ideal S1x1024 .f32) (x2 : Vec Ideal S1024x5632 .f32) (x3 : Vec Ideal S2816x1024 .f32)
  (x4 : Vec Ideal S1x1x512 .i32) (x5 : Vec Ideal S128x1 .f32) (x6 : Vec Ideal S16x2304 .f32) (x7 : Vec Ideal S16x1024 .f32)
  (x8 : Vec Ideal S16x1024 .f32) (x9 : Vec Ideal S16x1024 .f32) (x10 : Vec Ideal S16x5632 .f32) (x11 : Vec Ideal S64x1024 .f32)

/-- A row of the block of activations. -/
theorem out12_at (i : Fin 512) (l : Fin 1024) : out0_12 (F := Ideal) x0 x1 x2 x3 x4 x5 x6 x7 x8 x9 x10 x11 (ix2 i l)
    = halfRow (fun k => x0 (ix2 i k)) (fun k => x1 (ix2 0 k)) (fun k j => x2 (ix2 k j)) (fun j l => x3 (ix2 j l)) l := by
  unfold_out out0_12
  frame_out
  rw [pay11_at]
  simp only [pay3_at, pay9_at, pay6_at, pay5_at, pay7_at, pay8_at, pay10_at, actN, dotN, pay4_at]
  unfold halfRow
  rw [← sum_chunks]
  pointwise
  simp only [refAct, refDot, ← Nat.add_assoc, Nat.reduceAdd]

/-- The angles of the block's tokens. -/
theorem ang_at (i : Fin 512) (l : Fin 128) : k0_pay21 (F := Ideal) x0 x1 x2 x3 x4 x5 x6 x7 x8 x9 x10 x11 (ix2 l i)
    = x5 (ix2 l 0) * FloatOps.sitofp (F := Ideal) .f32 (x4 (ix3 0 0 i)) := by
  unfold k0_pay21
  rw [pay19_at]
  pointwise

/-- A row of the block of the rotary table. -/
theorem out13_at (i : Fin 512) (l : Fin 256) : out0_13 (F := Ideal) x0 x1 x2 x3 x4 x5 x6 x7 x8 x9 x10 x11 (ix2 i l)
    = tableAt l (x5 (ix2 ⟨l.val % 128, by omega⟩ 0) * FloatOps.sitofp (F := Ideal) .f32 (x4 (ix3 0 0 i))) := by
  canon_tiles x h
  · obtain ⟨p, q, rfl⟩ : ∃ (p : Fin 512) (q : Fin 128), x = ix2 p q := ⟨x 0, x 1, eq_ix2 x⟩
    have h0' : i.val = p.val := h0
    have h1' : l.val = 128 + q.val := h1
    obtain rfl : i = p := Fin.ext h0'
    have e1 : (⟨l.val % 128, by omega⟩ : Fin 128) = q := Fin.ext (by show l.val % 128 = q.val; omega)
    have e2 : l.val % 64 = q.val % 64 := by omega
    rw [pay2_at, ang_at, e1]
    unfold tableAt
    rw [if_neg (by omega : ¬ l.val < 128), e2]
  · obtain ⟨p, q, rfl⟩ : ∃ (p : Fin 512) (q : Fin 128), x = ix2 p q := ⟨x 0, x 1, eq_ix2 x⟩
    have h0' : i.val = p.val := h0
    have h1' : l.val = q.val := h1
    obtain rfl : i = p := Fin.ext h0'
    have e1 : (⟨l.val % 128, by omega⟩ : Fin 128) = q := Fin.ext (by show l.val % 128 = q.val; omega)
    rw [pay1_at, ang_at, e1]
    unfold tableAt
    rw [if_pos (by omega : l.val < 128)]

/-- The casts of the later calls' weights. -/
theorem out14_at (i : Fin 16) (l : Fin 2304) : out0_14 (F := Ideal) x0 x1 x2 x3 x4 x5 x6 x7 x8 x9 x10 x11 (ix2 i l) = x6 (ix2 i l) := by
  unfold_out out0_14
  frame_out
  pointwise [k0_pay12]
theorem out15_at (i : Fin 16) (l : Fin 1024) : out0_15 (F := Ideal) x0 x1 x2 x3 x4 x5 x6 x7 x8 x9 x10 x11 (ix2 i l) = x7 (ix2 i l) := by
  unfold_out out0_15
  frame_out
  pointwise [k0_pay14, k0_pay13]
theorem out16_at (i : Fin 16) (l : Fin 1024) : out0_16 (F := Ideal) x0 x1 x2 x3 x4 x5 x6 x7 x8 x9 x10 x11 (ix2 i l) = x8 (ix2 i l) := by
  unfold_out out0_16
  frame_out
  pointwise [k0_pay15]
theorem out17_at (i : Fin 16) (l : Fin 1024) : out0_17 (F := Ideal) x0 x1 x2 x3 x4 x5 x6 x7 x8 x9 x10 x11 (ix2 i l) = x9 (ix2 i l) := by
  unfold_out out0_17
  frame_out
  pointwise [k0_pay16]
theorem out18_at (i : Fin 16) (l : Fin 5632) : out0_18 (F := Ideal) x0 x1 x2 x3 x4 x5 x6 x7 x8 x9 x10 x11 (ix2 i l) = x10 (ix2 i l) := by
  unfold_out out0_18
  frame_out
  pointwise [k0_pay17]
theorem out19_at (i : Fin 64) (l : Fin 1024) : out0_19 (F := Ideal) x0 x1 x2 x3 x4 x5 x6 x7 x8 x9 x10 x11 (ix2 i l) = x11 (ix2 i l) := by
  unfold_out out0_19
  frame_out
  pointwise [k0_pay18]

end Out

end Cert.Proof.Half

end
-- ==== Proof.HalfArr.lean ====
module

public import proofs.«01_k».proof.Proof.HalfOut

@[expose] public section

set_option maxRecDepth 16384

noncomputable section

namespace Cert.Proof.Half

open Cert.Kernel2Ideal Cert.Kernel2Ideal.Gen
open Cert.Proof.Ffn
open Idealize.ShloMosaic Idealize.ShloMosaic.TcCoe Idealize.SL.Sem

/-! The arrays the first half-step's kernel leaves, each one function of its operands. -/

variable (m : (ℓ : Loc nD τ sig) → Buf (Elt Ideal) ℓ) (c : Dev nD)

/-- The activations after the half-step. -/
def actArr (XA : FVec Ideal S32768x1024 .f32) (G : FVec Ideal S1x1024 .f32) (WI : FVec Ideal S1024x5632 .f32) (WO : FVec Ideal S2816x1024 .f32) :
    FVec Ideal S32768x1024 .f32 := fun i =>
  halfRow (fun k => XA (ix2 (i 0 : Fin 32768) k)) (fun k => G (ix2 0 k)) (fun k j => WI (ix2 k j)) (fun j l => WO (ix2 j l)) (i 1 : Fin 1024)
/-- One entry of the rotary table. -/
def tabEntry (FR : FVec Ideal S128x1 .f32) (PS : IVec S64x1x512 32) (r : Fin 32768) (l : Fin 256) : EReal :=
  tableAt l (FR (ix2 ⟨l.val % 128, by omega⟩ 0)
    * FloatOps.sitofp (F := Ideal) .f32 (PS (ix3 ⟨r.val / 512, by omega⟩ 0 ⟨r.val % 512, by omega⟩)))
/-- The rotary table. -/
def tabArr (FR : FVec Ideal S128x1 .f32) (PS : IVec S64x1x512 32) : FVec Ideal S32768x256 .f32 := fun i =>
  tabEntry FR PS (i 0 : Fin 32768) (i 1 : Fin 256)

/-- The block each window reads or writes at a grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0, 0]
    ∧ win0_5.index t = ![0, 0]
    ∧ win0_12.index t = ![t.val, 0]
    ∧ win0_13.index t = ![t.val, 0] :=
  (by decide +kernel : ∀ t : Fin grid0.N, _)
theorem idx_cast : ∀ t : Fin cfg0.N, win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![min t.val 43, 0]
    ∧ win0_14.index t = ![t.val, 0]
    ∧ win0_15.index t = ![t.val, 0]
    ∧ win0_16.index t = ![t.val, 0]
    ∧ win0_17.index t = ![t.val, 0]
    ∧ win0_18.index t = ![t.val, 0]
    ∧ win0_19.index t = ![min t.val 43, 0] :=
  (by decide +kernel : ∀ t : Fin grid0.N, _)

/-- The casts leave the weights as they were: the narrowing is exact here. -/
theorem final14 : (dats m 0 c).arrAt 14 cfg0.N = (V m c main_v11 : FVec Ideal S1024x2304 .f32) := by
  refine (dats m 0 c).arrAt_eq_of_covers 14 _ (by decide +kernel) fun t hf y => ?_
  blk_simp
  rw [after0_14]
  obtain ⟨p, q, rfl⟩ : ∃ (p : Fin 16) (q : Fin 2304), y = ix2 p q := ⟨y 0, y 1, eq_ix2 y⟩
  refine (out14_at _ _ _ _ _ _ _ _ _ _ _ _ p q).trans ?_
  blk_ext [iblk, idx_cast t]

theorem final15 : (dats m 0 c).arrAt 15 cfg0.N = (V m c main_v12 : FVec Ideal S1024x1024 .f32) := by
  refine (dats m 0 c).arrAt_eq_of_covers 15 _ (by decide +kernel) fun t hf y => ?_
  blk_simp
  rw [after0_15]
  obtain ⟨p, q, rfl⟩ : ∃ (p : Fin 16) (q : Fin 1024), y = ix2 p q := ⟨y 0, y 1, eq_ix2 y⟩
  refine (out15_at _ _ _ _ _ _ _ _ _ _ _ _ p q).trans ?_
  blk_ext [iblk, idx_cast t]

theorem final16 : (dats m 0 c).arrAt 16 cfg0.N = (V m c main_v13 : FVec Ideal S1024x1024 .f32) := by
  refine (dats m 0 c).arrAt_eq_of_covers 16 _ (by decide +kernel) fun t hf y => ?_
  blk_simp
  rw [after0_16]
  obtain ⟨p, q, rfl⟩ : ∃ (p : Fin 16) (q : Fin 1024), y = ix2 p q := ⟨y 0, y 1, eq_ix2 y⟩
  refine (out16_at _ _ _ _ _ _ _ _ _ _ _ _ p q).trans ?_
  blk_ext [iblk, idx_cast t]

theorem final17 : (dats m 0 c).arrAt 17 cfg0.N = (V m c main_v14 : FVec Ideal S1024x1024 .f32) := by
  refine (dats m 0 c).arrAt_eq_of_covers 17 _ (by decide +kernel) fun t hf y => ?_
  blk_simp
  rw [after0_17]
  obtain ⟨p, q, rfl⟩ : ∃ (p : Fin 16) (q : Fin 1024), y = ix2 p q := ⟨y 0, y 1, eq_ix2 y⟩
  refine (out17_at _ _ _ _ _ _ _ _ _ _ _ _ p q).trans ?_
  blk_ext [iblk, idx_cast t]

theorem final18 : (dats m 0 c).arrAt 18 cfg0.N = (V m c main_v15 : FVec Ideal S1024x5632 .f32) := by
  refine (dats m 0 c).arrAt_eq_of_covers 18 _ (by decide +kernel) fun t hf y => ?_
  blk_simp
  rw [after0_18]
  obtain ⟨p, q, rfl⟩ : ∃ (p : Fin 16) (q : Fin 5632), y = ix2 p q := ⟨y 0, y 1, eq_ix2 y⟩
  refine (out18_at _ _ _ _ _ _ _ _ _ _ _ _ p q).trans ?_
  blk_ext [iblk, idx_cast t]

theorem final19 : (dats m 0 c).arrAt 19 cfg0.N = (V m c main_v16 : FVec Ideal S2816x1024 .f32) := by
  refine (dats m 0 c).arrAt_eq_of_covers 19 _ (by decide +kernel) fun t hf y => ?_
  blk_simp
  rw [after0_19]
  obtain ⟨p, q, rfl⟩ : ∃ (p : Fin 64) (q : Fin 1024), y = ix2 p q := ⟨y 0, y 1, eq_ix2 y⟩
  refine (out19_at _ _ _ _ _ _ _ _ _ _ _ _ p q).trans ?_
  blk_ext [iblk, idx_cast t]

section Blocks
variable (t : Fin cfg0.N)

/-- The blocks of the first half-step's operands, read at an index. -/
theorem blk0_at (i : Fin 512) (k : Fin 1024) (h : 512 * t.val + i.val < 32768) :
    (iblk m c 0 t : FVec Ideal S512x1024 .f32) (ix2 i k) = (V m c main_v17 : FVec Ideal S32768x1024 .f32) (ix2 ⟨512 * t.val + i.val, h⟩ k) := by
  blk_ext [iblk, idx_val t]
theorem blk1_at (k : Fin 1024) : (iblk m c 1 t : FVec Ideal S1x1024 .f32) (ix2 0 k) = (V m c main_v19 : FVec Ideal S1x1024 .f32) (ix2 0 k) := by
  blk_ext [iblk, idx_val t]
theorem blk2_at (k : Fin 1024) (j : Fin 5632) : (iblk m c 2 t : FVec Ideal S1024x5632 .f32) (ix2 k j) = (V m c main_v20 : FVec Ideal S1024x5632 .f32) (ix2 k j) := by
  blk_ext [iblk, idx_val t]
theorem blk3_at (j : Fin 2816) (l : Fin 1024) : (iblk m c 3 t : FVec Ideal S2816x1024 .f32) (ix2 j l) = (V m c main_v21 : FVec Ideal S2816x1024 .f32) (ix2 j l) := by
  blk_ext [iblk, idx_val t]
theorem blk4_at (i : Fin 512) (h : t.val < 64) :
    (iblk m c 4 t : IVec S1x1x512 32) (ix3 0 0 i) = (V m c main_v10 : IVec S64x1x512 32) (ix3 ⟨t.val, h⟩ 0 i) := by
  blk_ext [iblk, idx_val t]
theorem blk5_at (l : Fin 128) : (iblk m c 5 t : FVec Ideal S128x1 .f32) (ix2 l 0) = (V m c main_v9 : FVec Ideal S128x1 .f32) (ix2 l 0) := by
  blk_ext [iblk, idx_val t]
/-- Where the blocks of the two results lie. -/
theorem emb12 (i : Fin 512) (l : Fin 1024) (h : 512 * t.val + i.val < 32768) :
    (((cfg0.win 12).blk t).view.emb (ix2 i l) : S32768x1024.Idx) = ix2 ⟨512 * t.val + i.val, h⟩ l := by
  blk_ext [idx_val t]
theorem emb13 (i : Fin 512) (l : Fin 256) (h : 512 * t.val + i.val < 32768) :
    (((cfg0.win 13).blk t).view.emb (ix2 i l) : S32768x256.Idx) = ix2 ⟨512 * t.val + i.val, h⟩ l := by
  blk_ext [idx_val t]
theorem row_lt (i : Fin 512) : 512 * t.val + i.val < 32768 := by
  have : t.val < 64 := lt_of_lt_of_eq t.isLt N_0
  omega

end Blocks

theorem final12 : (dats m 0 c).arrAt 12 cfg0.N = actArr (V m c main_v17) (V m c main_v19) (V m c main_v20) (V m c main_v21) := by
  refine (dats m 0 c).arrAt_eq_of_covers 12 _ (by decide +kernel) fun t hf y => ?_
  blk_simp
  rw [after0_12]
  obtain ⟨p, q, rfl⟩ : ∃ (p : Fin 512) (q : Fin 1024), y = ix2 p q := ⟨y 0, y 1, eq_ix2 y⟩
  refine (out12_at _ _ _ _ _ _ _ _ _ _ _ _ p q).trans ?_
  refine Eq.trans ?_ (congrArg (actArr (V m c main_v17) (V m c main_v19) (V m c main_v20) (V m c main_v21)) (emb12 t p q (row_lt t p)).symm)
  unfold actArr
  have h0 := funext fun k => blk0_at m c t p k (row_lt t p)
  have h1 := funext fun k => blk1_at m c t k
  have h2 := funext fun k => funext fun j => blk2_at m c t k j
  have h3 := funext fun j => funext fun l => blk3_at m c t j l
  exact congrFun (congr (congr (congr (congrArg halfRow h0) h1) h2) h3) q

theorem final13 : (dats m 0 c).arrAt 13 cfg0.N = tabArr (V m c main_v9) (V m c main_v10) := by
  refine (dats m 0 c).arrAt_eq_of_covers 13 _ (by decide +kernel) fun t hf y => ?_
  blk_simp
  rw [after0_13]
  obtain ⟨p, q, rfl⟩ : ∃ (p : Fin 512) (q : Fin 256), y = ix2 p q := ⟨y 0, y 1, eq_ix2 y⟩
  refine (out13_at _ _ _ _ _ _ _ _ _ _ _ _ p q).trans ?_
  refine Eq.trans ?_ (congrArg (tabArr (V m c main_v9) (V m c main_v10)) (emb13 t p q (row_lt t p)).symm)
  have ht : t.val < 64 := lt_of_lt_of_eq t.isLt N_0
  have h5 := blk5_at m c t ⟨q.val % 128, by omega⟩
  have h4 := blk4_at m c t p ht
  refine congrArg (tableAt q) (congr (congrArg HMul.hMul h5) (congrArg (FloatOps.sitofp (F := Ideal) .f32) (h4.trans ?_)))
  refine congrArg (V m c main_v10 : IVec S64x1x512 32) (funext fun a => Fin.ext ?_)
  match a with
  | ⟨0, _⟩ => show t.val = (512 * t.val + p.val) / 512; omega
  | ⟨1, _⟩ => rfl
  | ⟨2, _⟩ => show p.val = (512 * t.val + p.val) % 512; omega

end Cert.Proof.Half

end
-- ==== Proof.HalfRes.lean ====
module

public import proofs.«01_k».proof.Proof.HalfArr
public import Idealize.ShloMosaic.Lib.Pointwise

@[expose] public section

set_option maxRecDepth 16384

noncomputable section

namespace Cert.Proof.Half

open Cert.Kernel2Ideal Cert.Kernel2Ideal.Gen
open Cert.Proof.Ffn
open Idealize.ShloMosaic Idealize.ShloMosaic.TcCoe Idealize.SL.Sem

/-! The first half-step's results read at an index, of the arguments. -/

/-- The rotary frequencies, as the host lines make them. -/
def freq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

variable (m : (ℓ : Loc nD τ sig) → Buf (Elt Ideal) ℓ) (c : Dev nD)

/-- What the host lines before the kernel leave in its operands. -/
theorem V_v17 : V m c main_v17 = shapeCast S32768x1024 (m ((c.tc : Thread nD τ).loc main_arg0) : FVec Ideal S4x8192x1024 .f32) shapeCasts_S4x8192x1024_S32768x1024 := by
  unfold V hostOps0; after_results; rfl
theorem V_v19 : V m c main_v19 = shapeCast S1x1024 (shapeCast S1024 (m ((c.tc : Thread nD τ).loc main_arg2) : FVec Ideal S1x1024 .f32) shapeCasts_S1x1024_S1024) shapeCasts_S1024_S1x1024 := by
  unfold V hostOps0; after_results; rfl
theorem V_v20 : V m c main_v20 = shapeCast S1024x5632 (m ((c.tc : Thread nD τ).loc main_arg3) : FVec Ideal S1x1024x5632 .f32) shapeCasts_S1x1024x5632_S1024x5632 := by
  unfold V hostOps0; after_results; rfl
theorem V_v21 : V m c main_v21 = shapeCast S2816x1024 (m ((c.tc : Thread nD τ).loc main_arg4) : FVec Ideal S1x2816x1024 .f32) shapeCasts_S1x2816x1024_S2816x1024 := by
  unfold V hostOps0; after_results; rfl
theorem V_v10 : V m c main_v10 = shapeCast S64x1x512 (m ((c.tc : Thread nD τ).loc main_arg1) : IVec S4x8192 32) shapeCasts_S4x8192_S64x1x512 := by
  unfold V hostOps0; after_results; rfl
theorem V_v9 : V m c main_v9 = shapeCast S128x1 (shapeCast S128 (broadcastInDim S4x32 ![0, 1] bcast_S1x32_S4x32_0_1 (shapeCast S1x32 freq shapeCasts_S32_S1x32)) shapeCasts_S4x32_S128) shapeCasts_S128_S128x1 := by
  unfold V hostOps0; after_results; rfl
theorem V_v11 : V m c main_v11 = shapeCast S1024x2304 (m ((c.tc : Thread nD τ).loc main_arg5) : FVec Ideal S1x1024x2304 .f32) shapeCasts_S1x1024x2304_S1024x2304 := by
  unfold V hostOps0; after_results; rfl
theorem V_v12 : V m c main_v12 = shapeCast S1024x1024 (m ((c.tc : Thread nD τ).loc main_arg6) : FVec Ideal S1x1024x1024 .f32) shapeCasts_S1x1024x1024_S1024x1024 := by
  unfold V hostOps0; after_results; rfl
theorem V_v13 : V m c main_v13 = shapeCast S1024x1024 (m ((c.tc : Thread nD τ).loc main_arg7) : FVec Ideal S1x1024x1024 .f32) shapeCasts_S1x1024x1024_S1024x1024 := by
  unfold V hostOps0; after_results; rfl
theorem V_v14 : V m c main_v14 = shapeCast S1024x1024 (m ((c.tc : Thread nD τ).loc main_arg8) : FVec Ideal S1x1024x1024 .f32) shapeCasts_S1x1024x1024_S1024x1024 := by
  unfold V hostOps0; after_results; rfl
theorem V_v15 : V m c main_v15 = shapeCast S1024x5632 (m ((c.tc : Thread nD τ).loc main_arg9) : FVec Ideal S1x1024x5632 .f32) shapeCasts_S1x1024x5632_S1024x5632 := by
  unfold V hostOps0; after_results; rfl
theorem V_v16 : V m c main_v16 = shapeCast S2816x1024 (m ((c.tc : Thread nD τ).loc main_arg10) : FVec Ideal S1x2816x1024 .f32) shapeCasts_S1x2816x1024_S2816x1024 := by
  unfold V hostOps0; after_results; rfl

section At
variable (R : Fin 32768)

/-- The batch and the position of a row. -/
def batchOf : Fin 4 := ⟨R.val / 8192, by omega⟩
def posOf : Fin 8192 := ⟨R.val % 8192, by omega⟩

/-- The activations at a row, of the arguments. -/
theorem actArr_at (l : Fin 1024) : actArr (V m c main_v17) (V m c main_v19) (V m c main_v20) (V m c main_v21) (ix2 R l)
    = halfRow (fun k => (m ((c.tc : Thread nD τ).loc main_arg0) : FVec Ideal S4x8192x1024 .f32) (ix3 (batchOf R) (posOf R) k))
        (fun k => (m ((c.tc : Thread nD τ).loc main_arg2) : FVec Ideal S1x1024 .f32) (ix2 0 k))
        (fun k j => (m ((c.tc : Thread nD τ).loc main_arg3) : FVec Ideal S1x1024x5632 .f32) (ix3 0 k j))
        (fun j l => (m ((c.tc : Thread nD τ).loc main_arg4) : FVec Ideal S1x2816x1024 .f32) (ix3 0 j l)) l := by
  rw [V_v17, V_v19, V_v20, V_v21]
  have e0 : ∀ (Y : FVec Ideal S4x8192x1024 .f32) (k : Fin 1024), (shapeCast S32768x1024 Y shapeCasts_S4x8192x1024_S32768x1024)
      (ix2 R k) = Y (ix3 (batchOf R) (posOf R) k) := fun Y k => by pointwise [batchOf, posOf]
  have e1 : ∀ (Y : FVec Ideal S1x1024 .f32) (k : Fin 1024), (shapeCast S1x1024 (shapeCast S1024 Y shapeCasts_S1x1024_S1024) shapeCasts_S1024_S1x1024) (ix2 0 k) = Y (ix2 0 k) := fun Y k => by pointwise
  have e2 : ∀ (Y : FVec Ideal S1x1024x5632 .f32) (k : Fin 1024) (j : Fin 5632), (shapeCast S1024x5632 Y shapeCasts_S1x1024x5632_S1024x5632) (ix2 k j) = Y (ix3 0 k j) := fun Y k j => by pointwise
  have e3 : ∀ (Y : FVec Ideal S1x2816x1024 .f32) (k : Fin 2816) (j : Fin 1024), (shapeCast S2816x1024 Y shapeCasts_S1x2816x1024_S2816x1024) (ix2 k j) = Y (ix3 0 k j) := fun Y k j => by pointwise
  unfold actArr
  have h0 := funext fun k => e0 (m ((c.tc : Thread nD τ).loc main_arg0)) k
  have h1 := funext fun k => e1 (m ((c.tc : Thread nD τ).loc main_arg2)) k
  have h2 := funext fun k => funext fun j => e2 (m ((c.tc : Thread nD τ).loc main_arg3)) k j
  have h3 := funext fun k => funext fun j => e3 (m ((c.tc : Thread nD τ).loc main_arg4)) k j
  exact congrFun (congr (congr (congr (congrArg halfRow h0) h1) h2) h3) l

/-- The rotary table at a row, of the arguments. -/
theorem tabArr_at (l : Fin 256) : tabArr (V m c main_v9) (V m c main_v10) (ix2 R l)
    = tableAt l (freq (ix1 ⟨l.val % 32, by omega⟩)
        * FloatOps.sitofp (F := Ideal) .f32 ((m ((c.tc : Thread nD τ).loc main_arg1) : IVec S4x8192 32) (ix2 (batchOf R) (posOf R)))) := by
  rw [V_v9, V_v10]
  have e5 : ∀ (Y : FVec Ideal S32 .f32) (k : Fin 128), (shapeCast S128x1 (shapeCast S128 (broadcastInDim S4x32 ![0, 1] bcast_S1x32_S4x32_0_1 (shapeCast S1x32 Y shapeCasts_S32_S1x32)) shapeCasts_S4x32_S128) shapeCasts_S128_S128x1) (ix2 k 0)
      = Y (ix1 ⟨k.val % 32, by omega⟩) := fun Y k => by pointwise
  have e4 : ∀ (Y : IVec S4x8192 32), (shapeCast S64x1x512 Y shapeCasts_S4x8192_S64x1x512)
      (ix3 ⟨R.val / 512, by omega⟩ 0 ⟨R.val % 512, by omega⟩) = Y (ix2 (batchOf R) (posOf R)) := fun Y => by
    refine shapeCast_apply _ _ _ _ ?_
    rw [Shape.rowMajor_val_two, Shape.rowMajor_val_three]
    show R.val / 8192 * 8192 + R.val % 8192 = (R.val / 512 * 1 + 0) * 512 + R.val % 512
    omega
  have h5 := e5 freq ⟨l.val % 128, by omega⟩
  have h4 := e4 (m ((c.tc : Thread nD τ).loc main_arg1))
  have hl : (⟨l.val % 128 % 32, by omega⟩ : Fin 32) = ⟨l.val % 32, by omega⟩ := Fin.ext (by show l.val % 128 % 32 = l.val % 32; omega)
  rw [← hl]
  exact congrArg (tableAt l) (congr (congrArg HMul.hMul h5) (congrArg (FloatOps.sitofp (F := Ideal) .f32) h4))

end At

end Cert.Proof.Half

end
-- ==== Proof.HalfRef.lean ====
module

public import proofs.«01_k».proof.Proof.HalfOut
public import proofs.«01_k».proof.Proof.Gen.Reference2Ideal.Run
public import Idealize.ShloMosaic.Lib.Pointwise

@[expose] public section

set_option maxRecDepth 16384

noncomputable section

namespace Cert.Proof.Half.Ref

open Cert.Reference2Ideal Cert.Reference2Ideal.Gen
open Cert.Proof.Ffn
open Idealize.ShloMosaic Idealize.ShloMosaic.TcCoe Idealize.SL.Sem

/-! The reference of the first half-step, read at an index: `halfRow` and `tableAt` of the arguments' rows. -/

/-- The reference's RMS norm, as it is printed. -/
def nrm (X : FVec Ideal S4x8192x1024 .f32) (g : FVec Ideal S1024 .f32) : FVec Ideal S4x8192x1024 .f32 :=
  mulf (mulf X (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf X X) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x3727C5AC#32))))))
    (broadcastInDim S4x8192x1024 ![0, 1, 2] bcast_S1x1x1024_S4x8192x1024_0_1_2
      (broadcastInDim S1x1x1024 ![2] bcast_S1024_S1x1x1024_2 g))
/-- Its input projection. -/
def proj (X : FVec Ideal S4x8192x1024 .f32) (W : FVec Ideal S1x1024x5632 .f32) : FVec Ideal S4x8192x5632 .f32 :=
  Host.dotGeneral dot_S4x8192x1024_S1024x5632_S4x8192x5632_2_0_01_1_n_n none X
    (shapeCast S1024x5632 W shapeCasts_S1x1024x5632_S1024x5632)
/-- Its gate. -/
def gate (D : FVec Ideal S4x8192x5632 .f32) : FVec Ideal S4x8192x2816 .f32 :=
  extractStridedSlice S4x8192x2816 ![0, 0, 0] D slices_S4x8192x5632_S4x8192x2816_0_0_0
/-- Its activation. -/
def act (D : FVec Ideal S4x8192x5632 .f32) : FVec Ideal S4x8192x2816 .f32 :=
  mulf (mulf (gate D) (Host.divf (broadcastInDim S4x8192x2816 ![] bcast_S_S4x8192x2816 (constant S_ .f32 0x3F800000#32))
      (addf (broadcastInDim S4x8192x2816 ![] bcast_S_S4x8192x2816 (constant S_ .f32 0x3F800000#32)) (Host.exp (Host.negf (gate D))))))
    (extractStridedSlice S4x8192x2816 ![0, 0, 2816] D slices_S4x8192x5632_S4x8192x2816_0_0_2816)
/-- Its residual sum. -/
def res (X : FVec Ideal S4x8192x1024 .f32) (A : FVec Ideal S4x8192x2816 .f32) (W : FVec Ideal S1x2816x1024 .f32) :
    FVec Ideal S4x8192x1024 .f32 :=
  addf X (mulf (broadcastInDim S4x8192x1024 ![] bcast_S_S4x8192x1024 (constant S_ .f32 0x3F000000#32))
    (Host.dotGeneral dot_S4x8192x2816_S2816x1024_S4x8192x1024_2_0_01_1_n_n none A
      (shapeCast S2816x1024 W shapeCasts_S1x2816x1024_S2816x1024)))

/-- The printed activations: the half-step, its tokens in rows. -/
def actRes (X : FVec Ideal S4x8192x1024 .f32) (G : FVec Ideal S1x1024 .f32) (W : FVec Ideal S1x1024x5632 .f32) (U : FVec Ideal S1x2816x1024 .f32) :
    FVec Ideal S32768x1024 .f32 :=
  shapeCast S32768x1024 (res X (act (proj (nrm X (shapeCast S1024 G shapeCasts_S1x1024_S1024)) W)) U) shapeCasts_S4x8192x1024_S32768x1024
/-- The printed frequencies. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))
/-- The printed angles. -/
def ang (P : IVec S4x8192 32) (Q : FVec Ideal S32 .f32) : FVec Ideal S4x8192x32 .f32 :=
  mulf (broadcastInDim S4x8192x32 ![0, 1, 2] bcast_S4x8192x1_S4x8192x32_0_1_2 (broadcastInDim S4x8192x1 ![0, 1] bcast_S4x8192_S4x8192x1_0_1 (sitofp .f32 P)))
    (broadcastInDim S4x8192x32 ![0, 1, 2] bcast_S1x1x32_S4x8192x32_0_1_2 (broadcastInDim S1x1x32 ![2] bcast_S32_S1x1x32_2 Q))
/-- The printed table of eight pieces. -/
def tabRes (C S N : FVec Ideal S4x8192x32 .f32) : FVec Ideal S32768x256 .f32 :=
  shapeCast S32768x256 (concatenate S4x8192x256 2 [⟨S4x8192x32, C⟩, ⟨S4x8192x32, C⟩, ⟨S4x8192x32, C⟩, ⟨S4x8192x32, C⟩,
    ⟨S4x8192x32, N⟩, ⟨S4x8192x32, S⟩, ⟨S4x8192x32, N⟩, ⟨S4x8192x32, S⟩]
    concatenates_S4x8192x32_S4x8192x32_S4x8192x32_S4x8192x32_S4x8192x32_S4x8192x32_S4x8192x32_S4x8192x32_S4x8192x256_d2)
    shapeCasts_S4x8192x256_S32768x256

set_option maxHeartbeats 2000000 in
/-- The reference's printed table is these pieces put together. -/
theorem tab_pieces (m : (ℓ : Loc nD τ sig) → Buf (Elt Ideal) ℓ) (c : Dev nD) :
    Value.res_main_v43 (F := Ideal) m c
      = tabRes (Host.cos (ang (m ((c.tc : Thread nD τ).loc main_arg1)) freqs)) (Host.sin (ang (m ((c.tc : Thread nD τ).loc main_arg1)) freqs))
          (Host.negf (Host.sin (ang (m ((c.tc : Thread nD τ).loc main_arg1)) freqs))) := by
  unfold Value.res_main_v43 tabRes ang freqs
  rfl

section At
variable (X : FVec Ideal S4x8192x1024 .f32) (g : FVec Ideal S1024 .f32) (b : Fin 4) (s : Fin 8192)

theorem nrm_at (l : Fin 1024) : nrm X g (ix3 b s l) = normed (fun k => X (ix3 b s k)) (fun k => g (ix1 k)) l := by
  pointwise [nrm]
  simp only [normed, rms, zero_add]
theorem proj_at (W : FVec Ideal S1x1024x5632 .f32) (j : Fin 5632) :
    proj X W (ix3 b s j) = ∑ k : Fin 1024, X (ix3 b s k) * W (ix3 0 k j) := by
  pointwise [proj]
theorem act_at (D : FVec Ideal S4x8192x5632 .f32) (j : Fin 2816) :
    act D (ix3 b s j) = silu (D (ix3 b s ⟨j.val, by omega⟩)) * D (ix3 b s ⟨2816 + j.val, by omega⟩) := by
  pointwise [act, gate]
  simp only [silu]
theorem res_at (A : FVec Ideal S4x8192x2816 .f32) (W : FVec Ideal S1x2816x1024 .f32) (l : Fin 1024) :
    res X A W (ix3 b s l) = X (ix3 b s l) + cH * ∑ j : Fin 2816, A (ix3 b s j) * W (ix3 0 j l) := by
  pointwise [res]

theorem ang_at (P : IVec S4x8192 32) (Q : FVec Ideal S32 .f32) (j : Fin 32) :
    ang P Q (ix3 b s j) = FloatOps.sitofp (F := Ideal) .f32 (P (ix2 b s)) * Q (ix1 j) := by
  pointwise [ang]
end At

/-- The reference's activations at a row. -/
theorem actRes_at (X : FVec Ideal S4x8192x1024 .f32) (G : FVec Ideal S1x1024 .f32) (W : FVec Ideal S1x1024x5632 .f32) (U : FVec Ideal S1x2816x1024 .f32)
    (R : Fin 32768) (l : Fin 1024) : actRes X G W U (ix2 R l)
      = halfRow (fun k => X (ix3 ⟨R.val / 8192, by omega⟩ ⟨R.val % 8192, by omega⟩ k)) (fun k => G (ix2 0 k)) (fun k j => W (ix3 0 k j)) (fun j l => U (ix3 0 j l)) l := by
  have h : ∀ Y : FVec Ideal S4x8192x1024 .f32, (shapeCast S32768x1024 Y shapeCasts_S4x8192x1024_S32768x1024) (ix2 R l)
      = Y (ix3 ⟨R.val / 8192, by omega⟩ ⟨R.val % 8192, by omega⟩ l) := fun Y => by pointwise
  have hg : ∀ k : Fin 1024, (shapeCast S1024 G shapeCasts_S1x1024_S1024) (ix1 k) = G (ix2 0 k) := fun k => by pointwise
  refine (h _).trans ?_
  simp only [nrm_at, res_at, act_at, proj_at, hg]
  rfl

/-- The table of eight pieces at a lane: cosines in the lower half, signed sines in the upper. -/
theorem tabRes_at (C S N : FVec Ideal S4x8192x32 .f32) (R : Fin 32768) (l : Fin 256) :
    tabRes C S N (ix2 R l) = if l.val < 128 then C (ix3 ⟨R.val / 8192, by omega⟩ ⟨R.val % 8192, by omega⟩ ⟨l.val % 32, by omega⟩)
      else if l.val % 64 < 32 then N (ix3 ⟨R.val / 8192, by omega⟩ ⟨R.val % 8192, by omega⟩ ⟨l.val % 32, by omega⟩)
      else S (ix3 ⟨R.val / 8192, by omega⟩ ⟨R.val % 8192, by omega⟩ ⟨l.val % 32, by omega⟩) := by
  pointwise [tabRes]
  have key : ∀ (Y : FVec Ideal S4x8192x32 .f32) (q q' : Fin 32), q.val = q'.val →
      Y (ix3 ⟨R.val / 8192, by omega⟩ ⟨R.val % 8192, by omega⟩ q) = Y (ix3 ⟨R.val / 8192, by omega⟩ ⟨R.val % 8192, by omega⟩ q') :=
    fun Y q q' h => by rw [Fin.ext h]
  repeat' split
  all_goals first
    | (exfalso; omega)
    | (refine key _ _ _ ?_; dsimp only; omega)

/-- The reference's table at a row. -/
theorem table_at (m : (ℓ : Loc nD τ sig) → Buf (Elt Ideal) ℓ) (c : Dev nD) (R : Fin 32768) (l : Fin 256) :
    (Value.res_main_v43 (F := Ideal) m c : FVec Ideal S32768x256 .f32) (ix2 R l)
      = tableAt l (FloatOps.sitofp (F := Ideal) .f32 ((m ((c.tc : Thread nD τ).loc main_arg1) : IVec S4x8192 32) (ix2 ⟨R.val / 8192, by omega⟩ ⟨R.val % 8192, by omega⟩))
          * freqs (ix1 ⟨l.val % 32, by omega⟩)) := by
  have hc : ∀ (Y : FVec Ideal S4x8192x32 .f32) i, Host.cos Y i = Ideal.cos (Y i) := fun _ _ => rfl
  have hs : ∀ (Y : FVec Ideal S4x8192x32 .f32) i, Host.sin Y i = Ideal.sin (Y i) := fun _ _ => rfl
  have hn : ∀ (Y : FVec Ideal S4x8192x32 .f32) i, Host.negf Y i = -(Y i) := fun _ _ => rfl
  rw [tab_pieces, tabRes_at, hn, hc, hs, ang_at]
  rfl

end Cert.Proof.Half.Ref
-- ==== Proof.HalfBits.lean ====
module

public import proofs.«01_k».proof.Defs
public import proofs.«01_k».proof.Proof.Gen.Kernel2
public import proofs.«01_k».proof.Proof.Gen.Kernel2Ideal.Value

@[expose] public section

set_option maxRecDepth 16384
set_option maxHeartbeats 0

noncomputable section

namespace Cert.Proof.Half

open Idealize.ShloMosaic Idealize.SL.Sem

/-! The first half-step's program as printed and its idealized one are the same program: the frame of the one is the
frame of the other. -/

/-- The kernels' body tables agree, label by label. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | ⟨0, _⟩, (t, s) => rfl
/-- So do the tables with the pipeline's labels. -/
theorem tables_eq : Cert.Kernel2.defs (F := Bits) = Cert.Kernel2Ideal.defs (F := Bits) :=
  congrArg (Pipeline.defs Cert.Kernel2Ideal.pcfgs) bodies_eq
/-- And the host programs. -/
theorem mains_eq : Cert.Kernel2.main (F := Bits) = Cert.Kernel2Ideal.main (F := Bits) := rfl

/-- The frame of the program as printed: the generated run, read at `Bits`. -/
theorem frame_kernel2 : Cert.quiescent_Kernel2 := fun m ρ _ => by
  rw [tables_eq, mains_eq]
  exact Cert.Kernel2Ideal.Gen.frame (F := Bits) m ρ

end Cert.Proof.Half

end
-- ==== Proof.MemKer.lean ====
module

public import proofs.«01_k».proof.Proof.Math
public import proofs.«01_k».proof.Proof.Gen.Kernel3Ideal.Frame
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Proof.Mem

open Cert.Kernel3Ideal Cert.Kernel3Ideal.Gen
open Cert.Proof.Ffn
open Idealize.ShloMosaic Idealize.ShloMosaic.TcCoe Idealize.SL.Sem

/-! The memory's keys and values: what the call's body stores, the arrays it leaves, and both read at an index. -/

/-- A memory row's projection: the normed row times a column of the weights. -/
def memRow (x g : Fin 1024 → EReal) (w : Fin 1024 → Fin 2048 → EReal) (j : Fin 2048) : EReal := ∑ k : Fin 1024, normed x g k * w k j

section Body
variable (x0 : Vec Ideal S1x256x1024 .f32) (x1 : Vec Ideal S1x1024 .f32) (x2 : Vec Ideal S1024x2048 .f32) (i : Fin 256)

theorem pay1_at (j : Fin 2048) : k0_pay1 (F := Ideal) x0 x1 x2 (ix2 i j)
    = memRow (fun k => x0 (ix3 0 i k)) (fun k => x1 (ix2 0 k)) (fun k j => x2 (ix2 k j)) j := by
  pointwise [k0_pay1, memRow, normed, rms]
theorem out3_at (l : Fin 1024) : out0_3 (F := Ideal) x0 x1 x2 (ix3 0 l i)
    = memRow (fun k => x0 (ix3 0 i k)) (fun k => x1 (ix2 0 k)) (fun k j => x2 (ix2 k j)) ⟨l.val, by omega⟩ := by
  unfold out0_3
  frame_out
  unfold k0_pay2
  pointwise
  exact pay1_at ..
theorem out4_at (l : Fin 1024) : out0_4 (F := Ideal) x0 x1 x2 (ix3 0 i l)
    = memRow (fun k => x0 (ix3 0 i k)) (fun k => x1 (ix2 0 k)) (fun k j => x2 (ix2 k j)) ⟨1024 + l.val, by omega⟩ := by
  unfold out0_4
  frame_out
  unfold k0_pay3
  pointwise
  exact pay1_at ..
end Body

variable (m : (ℓ : Loc nD τ sig) → Buf (Elt Ideal) ℓ) (c : Dev nD)

/-- The transposed keys. -/
def keyArr (X : FVec Ideal S4x256x1024 .f32) (G : FVec Ideal S1x1024 .f32) (W : FVec Ideal S1024x2048 .f32) : FVec Ideal S4x1024x256 .bf16 := fun i =>
  memRow (fun k => X (ix3 (i 0 : Fin 4) (i 2 : Fin 256) k)) (fun k => G (ix2 0 k)) (fun k j => W (ix2 k j)) ⟨(i 1 : Fin 1024).val, lt_trans (i 1 : Fin 1024).isLt (by decide)⟩
/-- The values. -/
def valArr (X : FVec Ideal S4x256x1024 .f32) (G : FVec Ideal S1x1024 .f32) (W : FVec Ideal S1024x2048 .f32) : FVec Ideal S4x256x1024 .bf16 := fun i =>
  memRow (fun k => X (ix3 (i 0 : Fin 4) (i 1 : Fin 256) k)) (fun k => G (ix2 0 k)) (fun k j => W (ix2 k j)) ⟨1024 + (i 2 : Fin 1024).val, Nat.add_lt_add_left (i 2 : Fin 1024).isLt 1024⟩

/-- An index of a block of one batch. -/
theorem idx_one {a b : ℕ} (y : (⟨3, ![1, a, b]⟩ : Shape).Idx) : ∃ (p : Fin a) (q : Fin b), y = ix3 (0 : Fin 1) p q := by
  refine ⟨y 1, y 2, (eq_ix3 y).trans ?_⟩
  have h : (show Fin 1 from y 0) = (0 : Fin 1) := Subsingleton.elim _ _
  exact congrArg (fun z : Fin 1 => ix3 z (y 1 : Fin a) (y 2 : Fin b)) h

/-- The block each window reads or writes at a grid point. -/
theorem idx_val : ∀ t : Fin cfg0.N, win0_0.index t = ![t.val, 0, 0]
    ∧ win0_1.index t = ![0, 0]
    ∧ win0_2.index t = ![0, 0]
    ∧ win0_3.index t = ![t.val, 0, 0]
    ∧ win0_4.index t = ![t.val, 0, 0] :=
  (by decide +kernel : ∀ t : Fin grid0.N, _)

section Blocks
variable (t : Fin cfg0.N) (h : t.val < 4)

theorem blk0_at (i : Fin 256) (k : Fin 1024) :
    (iblk m c 0 t : FVec Ideal S1x256x1024 .f32) (ix3 0 i k) = (V m c main_arg0 : FVec Ideal S4x256x1024 .f32) (ix3 ⟨t.val, h⟩ i k) := by
  blk_ext [iblk, idx_val t]
theorem blk1_at (k : Fin 1024) : (iblk m c 1 t : FVec Ideal S1x1024 .f32) (ix2 0 k) = (V m c main_v1 : FVec Ideal S1x1024 .f32) (ix2 0 k) := by
  blk_ext [iblk, idx_val t]
theorem blk2_at (k : Fin 1024) (j : Fin 2048) : (iblk m c 2 t : FVec Ideal S1024x2048 .f32) (ix2 k j) = (V m c main_v2 : FVec Ideal S1024x2048 .f32) (ix2 k j) := by
  blk_ext [iblk, idx_val t]
theorem emb3 (l : Fin 1024) (i : Fin 256) : (((cfg0.win 3).blk t).view.emb (ix3 0 l i) : S4x1024x256.Idx) = ix3 ⟨t.val, h⟩ l i := by
  blk_ext [idx_val t]
theorem emb4 (i : Fin 256) (l : Fin 1024) : (((cfg0.win 4).blk t).view.emb (ix3 0 i l) : S4x256x1024.Idx) = ix3 ⟨t.val, h⟩ i l := by
  blk_ext [idx_val t]
end Blocks

theorem final3 : (dats m 0 c).arrAt 3 cfg0.N = keyArr (V m c main_arg0) (V m c main_v1) (V m c main_v2) := by
  refine (dats m 0 c).arrAt_eq_of_covers 3 _ (by decide +kernel) fun t hf y => ?_
  blk_simp
  rw [after0_3]
  obtain ⟨l, i, rfl⟩ : ∃ (l : Fin 1024) (i : Fin 256), y = ix3 0 l i := idx_one (a := 1024) (b := 256) y
  have ht : t.val < 4 := lt_of_lt_of_eq t.isLt N_0
  refine (out3_at _ _ _ i l).trans ?_
  refine Eq.trans ?_ (congrArg (keyArr (V m c main_arg0) (V m c main_v1) (V m c main_v2)) (emb3 t ht l i).symm)
  have h0 := funext fun k => blk0_at m c t ht i k
  have h1 := funext fun k => blk1_at m c t k
  have h2 := funext fun k => funext fun j => blk2_at m c t k j
  exact congrFun (congr (congr (congrArg memRow h0) h1) h2) _

theorem final4 : (dats m 0 c).arrAt 4 cfg0.N = valArr (V m c main_arg0) (V m c main_v1) (V m c main_v2) := by
  refine (dats m 0 c).arrAt_eq_of_covers 4 _ (by decide +kernel) fun t hf y => ?_
  blk_simp
  rw [after0_4]
  obtain ⟨i, l, rfl⟩ : ∃ (i : Fin 256) (l : Fin 1024), y = ix3 0 i l := idx_one (a := 256) (b := 1024) y
  have ht : t.val < 4 := lt_of_lt_of_eq t.isLt N_0
  refine (out4_at _ _ _ i l).trans ?_
  refine Eq.trans ?_ (congrArg (valArr (V m c main_arg0) (V m c main_v1) (V m c main_v2)) (emb4 t ht i l).symm)
  have h0 := funext fun k => blk0_at m c t ht i k
  have h1 := funext fun k => blk1_at m c t k
  have h2 := funext fun k => funext fun j => blk2_at m c t k j
  exact congrFun (congr (congr (congrArg memRow h0) h1) h2) _

/-- What the host lines before the kernel leave in its operands. -/
theorem V_v1 : V m c main_v1 = shapeCast S1x1024 (shapeCast S1024 (m ((c.tc : Thread nD τ).loc main_arg1) : FVec Ideal S1x1024 .f32) shapeCasts_S1x1024_S1024) shapeCasts_S1024_S1x1024 := by
  unfold V hostOps0; after_results; rfl
theorem V_v2 : V m c main_v2 = shapeCast S1024x2048 (m ((c.tc : Thread nD τ).loc main_arg2) : FVec Ideal S1x1024x2048 .f32) shapeCasts_S1x1024x2048_S1024x2048 := by
  unfold V hostOps0; after_results; rfl

/-- An entry of a memory row's projection, of the arguments. -/
def entry (b : Fin 4) (i : Fin 256) (j : Fin 2048) : EReal :=
  memRow (fun k => (m ((c.tc : Thread nD τ).loc main_arg0) : FVec Ideal S4x256x1024 .f32) (ix3 b i k))
    (fun k => (m ((c.tc : Thread nD τ).loc main_arg1) : FVec Ideal S1x1024 .f32) (ix2 0 k))
    (fun k j => (m ((c.tc : Thread nD τ).loc main_arg2) : FVec Ideal S1x1024x2048 .f32) (ix3 0 k j)) j

theorem operands (b : Fin 4) (i : Fin 256) (j : Fin 2048) :
    memRow (fun k => (V m c main_arg0 : FVec Ideal S4x256x1024 .f32) (ix3 b i k)) (fun k => (V m c main_v1 : FVec Ideal S1x1024 .f32) (ix2 0 k))
      (fun k j => (V m c main_v2 : FVec Ideal S1024x2048 .f32) (ix2 k j)) j = entry m c b i j := by
  rw [V_v1, V_v2, V_main_arg0]
  have e1 : ∀ (Y : FVec Ideal S1x1024 .f32) (k : Fin 1024), (shapeCast S1x1024 (shapeCast S1024 Y shapeCasts_S1x1024_S1024) shapeCasts_S1024_S1x1024) (ix2 0 k) = Y (ix2 0 k) := fun Y k => by pointwise
  have e2 : ∀ (Y : FVec Ideal S1x1024x2048 .f32) (k : Fin 1024) (j : Fin 2048), (shapeCast S1024x2048 Y shapeCasts_S1x1024x2048_S1024x2048) (ix2 k j) = Y (ix3 0 k j) := fun Y k j => by pointwise
  have h1 := funext fun k => e1 (m ((c.tc : Thread nD τ).loc main_arg1)) k
  have h2 := funext fun k => funext fun j => e2 (m ((c.tc : Thread nD τ).loc main_arg2)) k j
  exact congrFun (congr (congrArg (memRow _) h1) h2) j

theorem keyArr_at (b : Fin 4) (l : Fin 1024) (i : Fin 256) :
    keyArr (V m c main_arg0) (V m c main_v1) (V m c main_v2) (ix3 b l i) = entry m c b i ⟨l.val, by omega⟩ := operands m c b i _
theorem valArr_at (b : Fin 4) (i : Fin 256) (l : Fin 1024) :
    valArr (V m c main_arg0) (V m c main_v1) (V m c main_v2) (ix3 b i l) = entry m c b i ⟨1024 + l.val, by omega⟩ := operands m c b i _

end Cert.Proof.Mem

end
-- ==== Proof.MemRef.lean ====
module

public import proofs.«01_k».proof.Proof.MemKer
public import proofs.«01_k».proof.Proof.Gen.Reference3Ideal.Run

@[expose] public section

set_option maxRecDepth 16384

noncomputable section

namespace Cert.Proof.Mem.Ref

open Cert.Reference3Ideal Cert.Reference3Ideal.Gen
open Cert.Proof.Ffn
open Idealize.ShloMosaic Idealize.ShloMosaic.TcCoe Idealize.SL.Sem

/-! The reference of the memory's keys and values, read at an index: `memRow` of the arguments' rows. -/

/-- The printed projection of the memory. -/
def kv (X : FVec Ideal S4x256x1024 .f32) (G : FVec Ideal S1x1024 .f32) (W : FVec Ideal S1x1024x2048 .f32) : FVec Ideal S4x256x2048 .f32 :=
  Host.dotGeneral dot_S4x256x1024_S1024x2048_S4x256x2048_2_0_01_1_n_n none
    (mulf (mulf X (broadcastInDim S4x256x1024 ![0, 1, 2] bcast_S4x256x1_S4x256x1024_0_1_2
      (Host.rsqrt (addf (Host.divf (broadcastInDim S4x256x1 ![0, 1] bcast_S4x256_S4x256x1_0_1
          (Host.reduceAdd (mulf X X) (constant S_ .f32 0x00000000#32) reducesTo_S4x256x1024_S4x256_d2 h_S_))
        (broadcastInDim S4x256x1 ![] bcast_S_S4x256x1 (constant S_ .f32 0x44800000#32)))
        (broadcastInDim S4x256x1 ![] bcast_S_S4x256x1 (constant S_ .f32 0x3727C5AC#32))))))
      (broadcastInDim S4x256x1024 ![0, 1, 2] bcast_S1x1x1024_S4x256x1024_0_1_2
        (broadcastInDim S1x1x1024 ![2] bcast_S1024_S1x1x1024_2 (shapeCast S1024 G shapeCasts_S1x1024_S1024))))
    (shapeCast S1024x2048 W shapeCasts_S1x1024x2048_S1024x2048)
/-- The printed keys. -/
def keys (D : FVec Ideal S4x256x2048 .f32) : FVec Ideal S4x1024x256 .bf16 :=
  truncf .bf16 (transpose S4x1024x256 [0, 2, 1] (extractStridedSlice S4x256x1024 ![0, 0, 0] D slices_S4x256x2048_S4x256x1024_0_0_0)
    transposes_S4x256x1024_S4x1024x256_0_2_1) bitsLt_bf16_f32
/-- The printed values. -/
def vals (D : FVec Ideal S4x256x2048 .f32) : FVec Ideal S4x256x1024 .bf16 :=
  truncf .bf16 (extractStridedSlice S4x256x1024 ![0, 0, 1024] D slices_S4x256x2048_S4x256x1024_0_0_1024) bitsLt_bf16_f32

section At
variable (X : FVec Ideal S4x256x1024 .f32) (G : FVec Ideal S1x1024 .f32) (W : FVec Ideal S1x1024x2048 .f32) (D : FVec Ideal S4x256x2048 .f32)
  (b : Fin 4) (i : Fin 256)

theorem kv_at (j : Fin 2048) : kv X G W (ix3 b i j) = memRow (fun k => X (ix3 b i k)) (fun k => G (ix2 0 k)) (fun k j => W (ix3 0 k j)) j := by
  pointwise [kv]
  simp only [memRow, normed, rms, zero_add]
theorem keys_at (l : Fin 1024) : keys D (ix3 b l i) = D (ix3 b i ⟨l.val, by omega⟩) := by pointwise [keys]
theorem vals_at (l : Fin 1024) : vals D (ix3 b i l) = D (ix3 b i ⟨1024 + l.val, by omega⟩) := by pointwise [vals]
end At

end Cert.Proof.Mem.Ref

end
-- ==== Proof.MemBits.lean ====
module

public import proofs.«01_k».proof.Defs
public import proofs.«01_k».proof.Proof.Gen.Kernel3
public import proofs.«01_k».proof.Proof.Gen.Kernel3Ideal.Value

@[expose] public section

set_option maxRecDepth 16384
set_option maxHeartbeats 0

noncomputable section

namespace Cert.Proof.Mem

open Idealize.ShloMosaic Idealize.SL.Sem

/-! The memory's program as printed and its idealized one are the same program: the frame of the one is the
frame of the other. -/

/-- The kernels' body tables agree, label by label. -/
theorem bodies_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | ⟨0, _⟩, (t, s) => rfl
/-- So do the tables with the pipeline's labels. -/
theorem tables_eq : Cert.Kernel3.defs (F := Bits) = Cert.Kernel3Ideal.defs (F := Bits) :=
  congrArg (Pipeline.defs Cert.Kernel3Ideal.pcfgs) bodies_eq
/-- And the host programs. -/
theorem mains_eq : Cert.Kernel3.main (F := Bits) = Cert.Kernel3Ideal.main (F := Bits) := rfl

/-- The frame of the program as printed: the generated run, read at `Bits`. -/
theorem frame_kernel3 : Cert.quiescent_Kernel3 := fun m ρ _ => by
  rw [tables_eq, mains_eq]
  exact Cert.Kernel3Ideal.Gen.frame (F := Bits) m ρ

end Cert.Proof.Mem

end
-- ==== Proof.MixKeep.lean ====
module

public import proofs.«01_k».proof.Proof.Gen.Kernel4Ideal.Frame

@[expose] public section

noncomputable section

/-! What a kernel body that only loads and stores may do to the buffers it is handed: nothing but change what is in
    them. `Keeps c J e` says that `J`, the ownership of those buffers at some contents, is got back after `e`; a load,
    a store, and any sequence of them keep it. -/

namespace Cert.Proof.Mix

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

section Defs
variable (c : Dev nD)

/-- The core holds `m`, at some contents. -/
def Cell {sp : CoreSpace} {s : Shape} {e : EltTy} (m : Memref sig .tc sp s e) : sProp 𝕄 :=
  iprop(∃ f, m.view.loc (c : Thread nD τ) ↦[m.view.set]{fullShare} f)

/-- `J` is `m` at some contents, and the rest. -/
def Has (J : sProp 𝕄) {sp : CoreSpace} {s : Shape} {e : EltTy} (m : Memref sig .tc sp s e) : Prop :=
  ∃ R : sProp 𝕄, J ⊣⊢ iprop(Cell (F := F) c m ∗ R)

/-- `e` gives `J` back. -/
def Keeps (J : sProp 𝕄) {α : Type} (e : Prog (TpuEff nD τ sig (Elt F) Λ₀ .tc) α) : Prop :=
  J ⊢ wp frame (wpE (defs₀ (F := F)) Variants.none (c : Thread nD τ) none) Set.univ e (fun _ => J)

end Defs

section Rules
variable {c : Dev nD}

theorem keeps_pure {J : sProp 𝕄} {α : Type} (x : α) : Keeps (F := F) c J (pure x) := by
  unfold Keeps
  iintro H
  sl_step
  iexact H

theorem keeps_bind {J : sProp 𝕄} {α β : Type} {e : Prog (TpuEff nD τ sig (Elt F) Λ₀ .tc) α} {k : α → Prog (TpuEff nD τ sig (Elt F) Λ₀ .tc) β}
    (he : Keeps c J e) (hk : ∀ x, Keeps c J (k x)) : Keeps c J (e >>= k) := by
  unfold Keeps at *
  rw [wp_bind]
  exact he.trans (wp_mono _ _ _ hk)

theorem keeps_dite {J : sProp 𝕄} {α : Type} {p : Prop} [Decidable p] {t : p → Prog (TpuEff nD τ sig (Elt F) Λ₀ .tc) α}
    {e : ¬ p → Prog (TpuEff nD τ sig (Elt F) Λ₀ .tc) α} (ht : ∀ h, Keeps c J (t h)) (he : ∀ h, Keeps c J (e h)) :
    Keeps c J (dite p t e) := by
  by_cases h : p
  · rw [dif_pos h]; exact ht h
  · rw [dif_neg h]; exact he h

variable {sp : CoreSpace} {s : Shape} {e : EltTy}

theorem keeps_load {J : sProp 𝕄} {m : Memref sig .tc sp s e} {r : LoadRect s} {hl : m.view.LoadsAt r} (h : Has c J m) :
    Keeps (F := F) c J (Prog.lift (.load m r hl)) := by
  obtain ⟨R, hR⟩ := h
  unfold Keeps
  refine hR.1.trans ?_
  unfold Cell
  iintro ⟨⟨%f, Hf⟩, HR⟩
  unfold Prog.lift
  iapply (wp_load _ _ _ _ (View.setOn_subset_set m.view r.set)) $$ Hf
  iintro Hf
  sl_step
  iapply hR.2
  unfold Cell
  isplitl [Hf]
  · iexists _; iexact Hf
  iexact HR

/-- A load through one slot of a ring of them. -/
theorem keeps_load_slot {J : sProp 𝕄} {s' : Shape} {m : Memref sig .tc sp s e} {ro : Rect s} {ho : ∀ a, ro.stride a = 1}
    {hq : ro.shape.Squeezes s'} {r : LoadRect s'} {hl : ((m.slice ro ho).squeeze s' hq).view.LoadsAt r} (h : Has c J m) :
    Keeps (F := F) c J (Prog.lift (.load ((m.slice ro ho).squeeze s' hq) r hl)) := by
  obtain ⟨R, hR⟩ := h
  have hS : ((m.slice ro ho).squeeze s' hq).view.setOn r.set ⊆ m.view.set :=
    (View.setOn_subset_set _ _).trans ((View.set_reshape _ _).subset.trans (View.set_slice_subset _ _))
  unfold Keeps
  refine hR.1.trans ?_
  unfold Cell
  iintro ⟨⟨%f, Hf⟩, HR⟩
  unfold Prog.lift
  iapply (wp_load (c := (c : Thread nD τ)) (m := (m.slice ro ho).squeeze s' hq) (r := r) (f := f) (hS := hS) _ _ _) $$ Hf
  iintro Hf
  sl_step
  iapply hR.2
  unfold Cell
  isplitl [Hf]
  · iexists _; iexact Hf
  iexact HR

/-- A word read from the scalar memory. -/
theorem keeps_smemLoad {J : sProp 𝕄} {m : Memref sig .tc .smem s e} {r : Rect s} {h1 : r.shape.numel = 1} {hp : e.packing = 1}
    (h : Has c J m) : Keeps (F := F) c J (smemLoad m r h1 hp) := by
  obtain ⟨R, hR⟩ := h
  unfold Keeps
  refine hR.1.trans ?_
  unfold Cell
  iintro ⟨⟨%f, Hf⟩, HR⟩
  unfold smemLoad smemLoadElt
  iapply (wp_load _ _ _ _ (View.setOn_subset_set m.view r.toLoadRect.set)) $$ Hf
  iintro Hf
  sl_step
  iapply hR.2
  unfold Cell
  isplitl [Hf]
  · iexists _; iexact Hf
  iexact HR

theorem keeps_store {J : sProp 𝕄} {m : Memref sig .tc sp s e} {r : Rect s} {w : r.shape.Idx → Elt F e} {Mk : Finset r.shape.Idx}
    {hx : (m.access r).Stores Mk} {hm : Mk = Finset.univ ∨ ∀ a, r.stride a = 1} (h : Has c J m) :
    Keeps (F := F) c J (Prog.lift (.store m r w Mk hx hm)) := by
  obtain ⟨R, hR⟩ := h
  have hS : (m.access r).setOn Mk ⊆ m.view.set := (View.setOn_subset_set _ _).trans (View.set_slice_subset _ _)
  unfold Keeps
  refine hR.1.trans ?_
  unfold Cell
  iintro ⟨⟨%f, Hf⟩, HR⟩
  unfold Prog.lift
  iapply (wp_store (c := (c : Thread nD τ)) (m := m) (r := r) (Mk := Mk) (f := f) (hS := hS) _ _ _) $$ Hf
  iintro Hf
  sl_step
  iapply hR.2
  unfold Cell
  isplitl [Hf]
  · iexists _; iexact Hf
  iexact HR

end Rules

end Cert.Proof.Mix

end
-- ==== Proof.MixBody.lean ====
module

public import proofs.«01_k».proof.Proof.MixKeep
public import proofs.«01_k».proof.Proof.Gen.Kernel4Ideal.Skeleton

@[expose] public section

set_option maxRecDepth 65536

noncomputable section

/-! The mixer's body changes nothing but what is in the buffers it is handed. -/

namespace Cert.Proof.Mix

open Cert.Kernel4Ideal Cert.Kernel4Ideal.Gen
open Idealize.ShloMosaic
open Idealize.ShloMosaic.TcCoe Idealize.ShloMosaic.Tactic
open Idealize.SL Idealize.SL.RA Idealize.SL.BI Idealize.SL.Sem

variable {F : FTy → Type} [FloatOps F]
local notation "𝕄" => MT nD τ sig Unit (Elt F) ℕ (UR sig nD τ) ℕ

set_option maxHeartbeats 0 in
/-- At every grid point the body gives back each buffer it is handed, at some contents: its three guarded parts in
    turn, each a sequence of loads and stores. -/
theorem mixer_keeps (c : Dev nD) (J : sProp 𝕄) (i : grid0.Coords)
    (arg1 : Memref sig .tc .smem S8 .f32) (harg1 : arg1.IsWhole)
    (arg2 : Memref sig .tc .vmem S512x1024 .f32) (harg2 : arg2.IsWhole)
    (arg3 : Memref sig .tc .vmem S512x256 .f32) (harg3 : arg3.IsWhole)
    (arg4 : Memref sig .tc .vmem S1x1024 .f32) (harg4 : arg4.IsWhole)
    (arg5 : Memref sig .tc .vmem S1024x2304 .bf16) (harg5 : arg5.IsWhole)
    (arg6 : Memref sig .tc .vmem S3x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S512x1024 .f32) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x1024 .bf16) (harg12 : arg12.IsWhole)
    (arg13 : Memref sig .tc .vmem S1x1024x256 .bf16) (harg13 : arg13.IsWhole)
    (arg14 : Memref sig .tc .vmem S1x256x1024 .bf16) (harg14 : arg14.IsWhole)
    (arg15 : Memref sig .tc .vmem S1024x1024 .bf16) (harg15 : arg15.IsWhole)
    (arg16 : Memref sig .tc .vmem S512x1024 .f32) (harg16 : arg16.IsWhole)
    (arg17 : Memref sig .tc .vmem S2x512x1024 .bf16) (harg17 : arg17.IsWhole)
    (arg18 : Memref sig .tc .vmem S512x512 .bf16) (harg18 : arg18.IsWhole)
    (arg19 : Memref sig .tc .vmem S640x128 .bf16) (harg19 : arg19.IsWhole)
    (arg20 : Memref sig .tc .vmem S640x128 .bf16) (harg20 : arg20.IsWhole)
    (arg21 : Memref sig .tc .vmem S640x128 .bf16) (harg21 : arg21.IsWhole)
    (arg22 : Memref sig .tc .vmem S640x128 .bf16) (harg22 : arg22.IsWhole)
    (arg23 : Memref sig .tc .vmem S520x512 .f32) (harg23 : arg23.IsWhole)
    (arg24 : Memref sig .tc .vmem S512x512 .f32) (harg24 : arg24.IsWhole)
    (arg25 : Memref sig .tc .vmem S8x128x128 .f32) (harg25 : arg25.IsWhole)
    (h1 : Has (F := F) c J arg1)
    (h2 : Has (F := F) c J arg2)
    (h3 : Has (F := F) c J arg3)
    (h4 : Has (F := F) c J arg4)
    (h5 : Has (F := F) c J arg5)
    (h6 : Has (F := F) c J arg6)
    (h7 : Has (F := F) c J arg7)
    (h8 : Has (F := F) c J arg8)
    (h9 : Has (F := F) c J arg9)
    (h10 : Has (F := F) c J arg10)
    (h11 : Has (F := F) c J arg11)
    (h12 : Has (F := F) c J arg12)
    (h13 : Has (F := F) c J arg13)
    (h14 : Has (F := F) c J arg14)
    (h15 : Has (F := F) c J arg15)
    (h16 : Has (F := F) c J arg16)
    (h17 : Has (F := F) c J arg17)
    (h18 : Has (F := F) c J arg18)
    (h19 : Has (F := F) c J arg19)
    (h20 : Has (F := F) c J arg20)
    (h21 : Has (F := F) c J arg21)
    (h22 : Has (F := F) c J arg22)
    (h23 : Has (F := F) c J arg23)
    (h24 : Has (F := F) c J arg24)
    (h25 : Has (F := F) c J arg25) :
    Keeps (F := F) c J (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) := by
  rw [cc0_mixer_eq_skeleton]
  unfold cc0_mixer_skel
  extract_lets
  rename_i done third second
  have k0 : Keeps (F := F) c J (done PUnit.unit) := keeps_pure _
  refine (show (Keeps (F := F) c J (third PUnit.unit)) → _ from fun k3 => ?_) ?_
  clear_value third
  refine (show (Keeps (F := F) c J (second PUnit.unit)) → _ from fun k2 => ?_) ?_
  clear_value second
  all_goals repeat' first
    | with_reducible exact keeps_pure _
    | with_reducible exact k2
    | with_reducible exact k3
    | with_reducible exact k0
    | (with_reducible refine keeps_load ?_); assumption
    | (with_reducible refine keeps_load_slot ?_); assumption
    | (with_reducible refine keeps_store ?_); assumption
    | with_reducible refine keeps_bind ?_ ?_
    | with_reducible refine keeps_dite ?_ ?_
    | (with_reducible intro x); try casesm* PSigma _
    | refine keeps_bind ?_ ?_
    | (refine keeps_smemLoad ?_); assumption

end Cert.Proof.Mix

end
-- ==== Proof.MixFrame.lean ====
module

public import proofs.«01_k».proof.Proof.MixBody
public import proofs.«01_k».proof.Proof.Gen.Kernel4Ideal.Frame

@[expose] public section

set_option maxRecDepth 16384

noncomputable section

/-! The mixer's call runs to the end and leaves the arrays it is given as they were. No window's contents are named:
    each is handed to the body at some contents and taken back at some, which `mixer_keeps` allows. -/

namespace Cert.Proof.Mix

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationLoose)

variable {F : FTy → Type} [FloatOps F]
local notation "𝕄" => MT nD τ sig Unit (Elt F) ℕ (UR sig nD τ) ℕ

section Parts
variable {c : Dev nD} {sp : CoreSpace} {s : Shape} {e : EltTy} {m : Memref sig .tc sp s e}

theorem has_left {P : sProp 𝕄} (R : sProp 𝕄) (h : Has (F := F) c P m) : Has (F := F) c iprop(P ∗ R) m := by
  obtain ⟨Q, hQ⟩ := h
  refine ⟨iprop(Q ∗ R), ⟨?_, ?_⟩⟩
  · iintro ⟨HP, HR⟩
    ihave H := hQ.1 $$ HP
    icases H with ⟨HM, HQ⟩
    isplitl [HM]; · iexact HM
    isplitl [HQ]; · iexact HQ
    iexact HR
  · iintro ⟨HM, HQ, HR⟩
    isplitl [HM HQ]
    · iapply hQ.2
      isplitl [HM]; · iexact HM
      iexact HQ
    iexact HR

theorem has_right (P : sProp 𝕄) {R : sProp 𝕄} (h : Has (F := F) c R m) : Has (F := F) c iprop(P ∗ R) m := by
  obtain ⟨Q, hQ⟩ := h
  refine ⟨iprop(P ∗ Q), ⟨?_, ?_⟩⟩
  · iintro ⟨HP, HR⟩
    ihave H := hQ.1 $$ HR
    icases H with ⟨HM, HQ⟩
    isplitl [HM]; · iexact HM
    isplitl [HP]; · iexact HP
    iexact HQ
  · iintro ⟨HM, HP, HQ⟩
    isplitl [HP]; · iexact HP
    iapply hQ.2
    isplitl [HM]; · iexact HM
    iexact HQ

theorem has_self {P : sProp 𝕄} (h₁ : P ⊢ Cell (F := F) c m) (h₂ : Cell (F := F) c m ⊢ P) : Has (F := F) c P m := by
  refine ⟨iprop(emp), ⟨?_, ?_⟩⟩
  · iintro H
    isplitl [H]
    · iapply h₁; iexact H
    iempintro
  · iintro ⟨H, -⟩
    iapply h₂; iexact H

/-- A staging buffer at some contents. -/
theorem has_owns : Has (F := F) c iprop(∃ X, owns (c : Thread nD τ) m fullShare X) m := by
  refine has_self ?_ ?_
  · unfold owns Cell
    iintro ⟨%X, %f, -, H⟩
    iexists f; iexact H
  · unfold owns Cell
    iintro ⟨%f, H⟩
    iexists _, f
    isplitr [H]
    · ipureintro; rfl
    iexact H

/-- A scratch buffer, whole, at some contents. -/
theorem has_whole (h : m.view.set = Finset.univ) :
    Has (F := F) c iprop(∃ f : Buf (Elt F) (m.view.loc (c : Thread nD τ)), m.view.loc (c : Thread nD τ) ↦{fullShare} f) m := by
  refine has_self ?_ ?_ <;> unfold Cell <;> rw [h]

end Parts

/-- The contents of no window are named. -/
def dats (m : (ℓ : Loc nD τ sig) → Buf (Elt F) ℓ) (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q := Pipeline.shareOf spec0
  owed _ := 0

variable (m : (ℓ : Loc nD τ sig) → Buf (Elt F) ℓ) (ρ : Dev nD → PrngReg)

theorem A_eq (c : Dev nD) (w : Fin cfg0.W) : (dats m 0 c).A w = V m c (Pipeline.arrRef spec0 w) := by
  dsimp only [dats]

/-- What the body is handed at point `t`, and gives back. -/
def handed (c : Dev nD) (t : Fin cfg0.N) : sProp 𝕄 :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

theorem has_stage (c : Dev nD) (t : Fin cfg0.N) (w : Fin cfg0.W) : Has (F := F) c (handed m c t) ((cfg0.win w).stage (cfg0.slots t w)) := by
  unfold handed
  refine has_right _ (has_right _ ?_)
  rw [bigSep_univ_split w]
  exact has_left _ has_owns

/-- A buffer held among the scratch is held among what the body is handed. -/
theorem has_scratch (c : Dev nD) (t : Fin cfg0.N) {sp : CoreSpace} {s : Shape} {e : EltTy} {M : Memref sig .tc sp s e}
    (h : Has (F := F) c (Pipeline.scopedRest spec0 c) M) : Has (F := F) c (handed m c t) M := by
  unfold handed Pipeline.ΦA
  exact has_left _ (has_left _ h)

set_option maxHeartbeats 1000000 in
/-- The body at point `t` gives back what it is handed. -/
theorem body_keeps (c : Dev nD) (t : Fin cfg0.N) : Keeps (F := F) c (handed m c t) (bodyAt0 t) := by
  unfold bodyAt0
  apply mixer_keeps
  · exact has_stage m c t 0
  · exact has_stage m c t 1
  · exact has_stage m c t 2
  · exact has_stage m c t 3
  · exact has_stage m c t 4
  · exact has_stage m c t 5
  · exact has_stage m c t 6
  · exact has_stage m c t 7
  · exact has_stage m c t 8
  · exact has_stage m c t 9
  · exact has_stage m c t 10
  · exact has_stage m c t 11
  · exact has_stage m c t 12
  · exact has_stage m c t 13
  · exact has_stage m c t 14
  · exact has_stage m c t 15
  · exact has_scratch m c t (by rw [scopedRest0_eq]; exact has_left _ (has_whole (F := F) (c := c) (m := Memref.whole cc0_scratch0) (View.set_whole cc0_scratch0)))
  · exact has_scratch m c t (by rw [scopedRest0_eq]; exact has_right _ (has_left _ (has_whole (F := F) (c := c) (m := Memref.whole cc0_scratch1) (View.set_whole cc0_scratch1))))
  · exact has_scratch m c t (by rw [scopedRest0_eq]; exact has_right _ (has_right _ (has_left _ (has_whole (F := F) (c := c) (m := Memref.whole cc0_scratch2) (View.set_whole cc0_scratch2)))))
  · exact has_scratch m c t (by rw [scopedRest0_eq]; exact has_right _ (has_right _ (has_right _ (has_left _ (has_whole (F := F) (c := c) (m := Memref.whole cc0_scratch3) (View.set_whole cc0_scratch3))))))
  · exact has_scratch m c t (by rw [scopedRest0_eq]; exact has_right _ (has_right _ (has_right _ (has_right _ (has_left _ (has_whole (F := F) (c := c) (m := Memref.whole cc0_scratch4) (View.set_whole cc0_scratch4)))))))
  · exact has_scratch m c t (by rw [scopedRest0_eq]; exact has_right _ (has_right _ (has_right _ (has_right _ (has_right _ (has_left _ (has_whole (F := F) (c := c) (m := Memref.whole cc0_scratch5) (View.set_whole cc0_scratch5))))))))
  · exact has_scratch m c t (by rw [scopedRest0_eq]; exact has_right _ (has_right _ (has_right _ (has_right _ (has_right _ (has_right _ (has_left _ (has_whole (F := F) (c := c) (m := Memref.whole cc0_scratch6) (View.set_whole cc0_scratch6)))))))))
  · exact has_scratch m c t (by rw [scopedRest0_eq]; exact has_right _ (has_right _ (has_right _ (has_right _ (has_right _ (has_right _ (has_right _ (has_left _ (has_whole (F := F) (c := c) (m := Memref.whole cc0_scratch7) (View.set_whole cc0_scratch7))))))))))
  · exact has_scratch m c t (by rw [scopedRest0_eq]; exact has_right _ (has_right _ (has_right _ (has_right _ (has_right _ (has_right _ (has_right _ (has_right _ (has_whole (F := F) (c := c) (m := Memref.whole cc0_scratch8) (View.set_whole cc0_scratch8))))))))))

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ (fun _ => true) := fun t => by
  rw [defs₀_row]
  exact body_keeps m c t

set_option backward.isDefEq.respectTransparency.types false in
set_option maxHeartbeats 800000 in
theorem run_main : θ_run defs (onTc (τ := τ) (main (F := F))) (s₀ m ρ)
    (fun r => RDat.FramePost cfg0 (fun c => (dats m 0 c).toRForget fun _ => true) (V m) r ∧ r.2.sem = fun _ => 0) :=
  RDat.θ_run_frame_track_shared cfgs (0 : Fin 1) launch₀0 defs₀ Variants.none (fun c => (dats m 0 c).toRForget fun _ => true) m ρ main
    (fun c => (body_obligation m c).toRForget) (fun c w _ => by dsimp only [dats, Dat.toRForget]; rfl) (fun _ _ => rfl) (V m) (hmain m Variants.none)
    (A_eq m) (fun _ => .rfl) (fun _ => .rfl) (Q' := _) (fun _ h => h)

/-- A buffer no window stages ends as the host's operations before the call left it. -/
theorem kept {r : PUnit × MemSt nD τ sig (Elt F)} (h : RDat.FramePost cfg0 (fun c => (dats m 0 c).toRForget fun _ => true) (V m) r)
    (c : Dev nD) (b : Ref sig .tc) (hs : b.isScoped = false) (ha : ∀ w, (spec0 w).arr.view.ref ≠ b)
    {X : Buf (Elt F) ((c.tc : Thread nD τ).loc b)} (hV : V m c b = X) : r.2.mem ((c.tc : Thread nD τ).loc b) = X :=
  ((h c).2 b (Pipeline.mem_restRefs_of b hs ha)).trans hV

/-- Every array the call is given ends as it was, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨
    kept m h.1 c main_arg0 (by decide) (by decide) (V_main_arg0 m c),
    kept m h.1 c main_arg1 (by decide) (by decide) (V_main_arg1 m c),
    kept m h.1 c main_arg2 (by decide) (by decide) (V_main_arg2 m c),
    kept m h.1 c main_arg3 (by decide) (by decide) (V_main_arg3 m c),
    kept m h.1 c main_arg4 (by decide) (by decide) (V_main_arg4 m c),
    kept m h.1 c main_arg5 (by decide) (by decide) (V_main_arg5 m c),
    kept m h.1 c main_arg6 (by decide) (by decide) (V_main_arg6 m c),
    kept m h.1 c main_arg7 (by decide) (by decide) (V_main_arg7 m c),
    kept m h.1 c main_arg8 (by decide) (by decide) (V_main_arg8 m c),
    kept m h.1 c main_arg9 (by decide) (by decide) (V_main_arg9 m c),
    kept m h.1 c main_arg10 (by decide) (by decide) (V_main_arg10 m c),
    kept m h.1 c main_arg11 (by decide) (by decide) (V_main_arg11 m c),
    kept m h.1 c main_arg12 (by decide) (by decide) (V_main_arg12 m c),
    kept m h.1 c main_arg13 (by decide) (by decide) (V_main_arg13 m c)⟩, h.2⟩) (run_main m ρ)

end Cert.Proof.Mix

end
-- ==== Proof.MixBits.lean ====
module

public import proofs.«01_k».proof.Defs
public import proofs.«01_k».proof.Proof.Gen.Kernel4
public import proofs.«01_k».proof.Proof.MixFrame

@[expose] public section

set_option maxRecDepth 16384
set_option maxHeartbeats 0

noncomputable section

namespace Cert.Proof.Mix

open Idealize.ShloMosaic Idealize.SL.Sem

/-! The mixer's program as printed and its idealized one are the same program: the frame of the one is the
frame of the other. -/

/-- The kernels' body tables agree, label by label. -/
theorem bodies_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | ⟨0, _⟩, (t, s) => rfl
/-- So do the tables with the pipeline's labels. -/
theorem tables_eq : Cert.Kernel4.defs (F := Bits) = Cert.Kernel4Ideal.defs (F := Bits) :=
  congrArg (Pipeline.defs Cert.Kernel4Ideal.pcfgs) bodies_eq
/-- And the host programs. -/
theorem mains_eq : Cert.Kernel4.main (F := Bits) = Cert.Kernel4Ideal.main (F := Bits) := rfl

/-- The frame of the program as printed: the idealized one's, which holds for values of any kind, read at `Bits`. -/
theorem frame_kernel4 : Cert.quiescent_Kernel4 := fun m ρ _ => by
  rw [tables_eq, mains_eq]
  exact frame (F := Bits) m ρ

end Cert.Proof.Mix

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Skeleton
public import proofs.«01_k».proof.Proof.Gen.Kernel4Ideal.Frame
public import proofs.«01_k».proof.Proof.Launch
public import proofs.«01_k».proof.Proof.Result
public import proofs.«01_k».proof.Proof.RefRow
public import proofs.«01_k».proof.Proof.HalfRes
public import proofs.«01_k».proof.Proof.HalfRef
public import proofs.«01_k».proof.Proof.HalfBits
public import proofs.«01_k».proof.Proof.MemRef
public import proofs.«01_k».proof.Proof.MemBits
public import proofs.«01_k».proof.Proof.MixBits

@[expose] public section

noncomputable section

namespace Cert.Proof

open Idealize.ShloMosaic Idealize.SL.Sem

/-- The frame of the program as printed: the one run, read at `Bits`. -/
theorem frame_kernel : Cert.quiescent_Kernel := fun m ρ _ =>
  (θ_run Cert.KernelIdeal.defs _ _).mono (fun _ h => ⟨fun c => (h.1 c).2, h.2⟩) (Ffn.run_main (F := Bits) m ρ)

/-- The frame of the idealized program: the same run, read at `Ideal`. -/
theorem frame_ideal : Cert.quiescent_KernelIdeal := fun m ρ _ =>
  (θ_run Cert.KernelIdeal.defs _ _).mono (fun _ h => ⟨fun c => (h.1 c).2, h.2⟩) (Ffn.run_main (F := Ideal) m ρ)

/-- The frame of the reference: host operations alone, no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the two results are equal. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v37 (F := Ideal) m' c = Ffn.RES (F := Ideal) m c := by
  funext i
  have hi : i = ix3 (i 0 : Fin 4) (i 1 : Fin 8192) (i 2 : Fin 1024) := eq_ix3 i
  rw [hi]
  refine (Ffn.Ref.ref_at m' c (i 0) (i 1) (i 2)).trans (Eq.trans ?_ (Ffn.res_at m c (i 0) (i 1) (i 2)).symm)
  rw [Ffn.kerRow_eq, h0, h1, h2, h3, h4]

/-- The idealized kernel and the reference end with equal results. -/
theorem algebraic : Cert.algebraic_KernelIdeal_ReferenceIdeal := fun m g m' g' _ hag =>
  ⟨fun c => Ffn.RES (F := Ideal) m c,
    (θ_run Cert.KernelIdeal.defs _ _).mono (fun _ h c => h.1 c) (Ffn.run_main (F := Ideal) m g),
    (θ_run Cert.ReferenceIdeal.defs _ _).mono (fun _ h c =>
        ⟨(h c).1.trans (value_eq m m' c (hag c).1 (hag c).2.1 (hag c).2.2.1 (hag c).2.2.2.1 (hag c).2.2.2.2), (h c).2⟩)
      (Cert.ReferenceIdeal.Value.run (F := Ideal) m' g')⟩

/-- The frame of the first half-step's idealized program: the generated run, read at `Ideal`. -/
theorem frame_ideal2 : Cert.quiescent_Kernel2Ideal := fun m ρ _ => Cert.Kernel2Ideal.Gen.frame (F := Ideal) m ρ

/-- The frame of its reference. -/
theorem frame_reference2 : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

section Half
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The activations after the first half-step are equal. -/
theorem act_eq (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Half.Ref.actRes (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
      = Half.actArr (Cert.Kernel2Ideal.Gen.V m c Cert.Kernel2Ideal.main_v17) (Cert.Kernel2Ideal.Gen.V m c Cert.Kernel2Ideal.main_v19) (Cert.Kernel2Ideal.Gen.V m c Cert.Kernel2Ideal.main_v20) (Cert.Kernel2Ideal.Gen.V m c Cert.Kernel2Ideal.main_v21) := by
  funext i
  obtain ⟨R, l, rfl⟩ : ∃ (R : Fin 32768) (l : Fin 1024), i = ix2 R l := ⟨i 0, i 1, eq_ix2 i⟩
  refine (Half.Ref.actRes_at _ _ _ _ R l).trans (Eq.trans ?_ (Half.actArr_at m c R l).symm)
  rw [h0, h2, h3, h4]
  rfl

/-- The rotary tables are equal: the reference writes the angle with its factors the other way round. -/
theorem tab_eq (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) :
    Cert.Reference2Ideal.Value.res_main_v43 (F := Ideal) m' c = Half.tabArr (Cert.Kernel2Ideal.Gen.V m c Cert.Kernel2Ideal.main_v9) (Cert.Kernel2Ideal.Gen.V m c Cert.Kernel2Ideal.main_v10) := by
  funext i
  obtain ⟨R, l, rfl⟩ : ∃ (R : Fin 32768) (l : Fin 256), i = ix2 R l := ⟨i 0, i 1, eq_ix2 i⟩
  refine (Half.Ref.table_at m' c R l).trans (Eq.trans ?_ (Half.tabArr_at m c R l).symm)
  rw [h1, mul_comm]
  rfl

end Half

set_option maxHeartbeats 4000000 in
/-- The idealized first half-step and its reference end with equal results, all eight of them. -/
theorem algebraic2 : Cert.algebraic_Kernel2Ideal_Reference2Ideal := fun m g m' g' _ hag =>
  ⟨fun c => Half.actArr (Cert.Kernel2Ideal.Gen.V m c Cert.Kernel2Ideal.main_v17) (Cert.Kernel2Ideal.Gen.V m c Cert.Kernel2Ideal.main_v19) (Cert.Kernel2Ideal.Gen.V m c Cert.Kernel2Ideal.main_v20) (Cert.Kernel2Ideal.Gen.V m c Cert.Kernel2Ideal.main_v21),
    fun c => Half.tabArr (Cert.Kernel2Ideal.Gen.V m c Cert.Kernel2Ideal.main_v9) (Cert.Kernel2Ideal.Gen.V m c Cert.Kernel2Ideal.main_v10),
    fun c => Cert.Kernel2Ideal.Gen.V m c Cert.Kernel2Ideal.main_v11, fun c => Cert.Kernel2Ideal.Gen.V m c Cert.Kernel2Ideal.main_v12, fun c => Cert.Kernel2Ideal.Gen.V m c Cert.Kernel2Ideal.main_v13,
    fun c => Cert.Kernel2Ideal.Gen.V m c Cert.Kernel2Ideal.main_v14, fun c => Cert.Kernel2Ideal.Gen.V m c Cert.Kernel2Ideal.main_v15, fun c => Cert.Kernel2Ideal.Gen.V m c Cert.Kernel2Ideal.main_v16,
    (θ_run Cert.Kernel2Ideal.defs _ _).mono (fun _ h c => by
        obtain ⟨a0, a1, a2, a3, a4, a5, a6, a7, rest⟩ := h c
        exact ⟨a0.trans (Half.final12 m c), a1.trans (Half.final13 m c), a2.trans (Half.final14 m c), a3.trans (Half.final15 m c),
          a4.trans (Half.final16 m c), a5.trans (Half.final17 m c), a6.trans (Half.final18 m c), a7.trans (Half.final19 m c), rest⟩)
      (Cert.Kernel2Ideal.Value.run_blocks (F := Ideal) m g),
    (θ_run Cert.Reference2Ideal.defs _ _).mono (fun _ h c => by
        obtain ⟨a0, a1, a2, a3, a4, a5, a6, a7, rest⟩ := h c
        obtain ⟨h0, h1, h2, h3, h4, h5, h6, h7, h8, h9, h10⟩ := hag c
        refine ⟨a0.trans (act_eq m m' c h0 h2 h3 h4), a1.trans (tab_eq m m' c h1), a2.trans ?_, a3.trans ?_, a4.trans ?_, a5.trans ?_,
          a6.trans ?_, a7.trans ?_, rest⟩
        · rw [h5]; exact (Half.V_v11 m c).symm
        · rw [h6]; exact (Half.V_v12 m c).symm
        · rw [h7]; exact (Half.V_v13 m c).symm
        · rw [h8]; exact (Half.V_v14 m c).symm
        · rw [h9]; exact (Half.V_v15 m c).symm
        · rw [h10]; exact (Half.V_v16 m c).symm)
      (Cert.Reference2Ideal.Value.run (F := Ideal) m' g')⟩

/-- The frame of its idealized program: the generated run, read at `Ideal`. -/
theorem frame_ideal3 : Cert.quiescent_Kernel3Ideal := fun m ρ _ => Cert.Kernel3Ideal.Gen.frame (F := Ideal) m ρ

/-- The frame of its reference. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section Memory
variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The memory's keys are equal. -/
theorem keys_eq (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Mem.Ref.keys (Mem.Ref.kv (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))
      = Mem.keyArr (Cert.Kernel3Ideal.Gen.V m c Cert.Kernel3Ideal.main_arg0) (Cert.Kernel3Ideal.Gen.V m c Cert.Kernel3Ideal.main_v1) (Cert.Kernel3Ideal.Gen.V m c Cert.Kernel3Ideal.main_v2) := by
  funext i
  obtain ⟨b, l, p, rfl⟩ : ∃ (b : Fin 4) (l : Fin 1024) (p : Fin 256), i = ix3 b l p := ⟨i 0, i 1, i 2, eq_ix3 i⟩
  refine (Mem.Ref.keys_at _ b p l).trans ((Mem.Ref.kv_at _ _ _ b p _).trans (Eq.trans ?_ (Mem.keyArr_at m c b l p).symm))
  rw [h0, h1, h2]
  rfl

/-- Its values are equal. -/
theorem vals_eq (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Mem.Ref.vals (Mem.Ref.kv (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))
      = Mem.valArr (Cert.Kernel3Ideal.Gen.V m c Cert.Kernel3Ideal.main_arg0) (Cert.Kernel3Ideal.Gen.V m c Cert.Kernel3Ideal.main_v1) (Cert.Kernel3Ideal.Gen.V m c Cert.Kernel3Ideal.main_v2) := by
  funext i
  obtain ⟨b, p, l, rfl⟩ : ∃ (b : Fin 4) (p : Fin 256) (l : Fin 1024), i = ix3 b p l := ⟨i 0, i 1, i 2, eq_ix3 i⟩
  refine (Mem.Ref.vals_at _ b p l).trans ((Mem.Ref.kv_at _ _ _ b p _).trans (Eq.trans ?_ (Mem.valArr_at m c b p l).symm))
  rw [h0, h1, h2]
  rfl

end Memory

set_option maxHeartbeats 4000000 in
/-- The idealized call of the memory and its reference end with equal keys and values. -/
theorem algebraic3 : Cert.algebraic_Kernel3Ideal_Reference3Ideal := fun m g m' g' _ hag =>
  ⟨fun c => Mem.keyArr (Cert.Kernel3Ideal.Gen.V m c Cert.Kernel3Ideal.main_arg0) (Cert.Kernel3Ideal.Gen.V m c Cert.Kernel3Ideal.main_v1) (Cert.Kernel3Ideal.Gen.V m c Cert.Kernel3Ideal.main_v2),
    fun c => Mem.valArr (Cert.Kernel3Ideal.Gen.V m c Cert.Kernel3Ideal.main_arg0) (Cert.Kernel3Ideal.Gen.V m c Cert.Kernel3Ideal.main_v1) (Cert.Kernel3Ideal.Gen.V m c Cert.Kernel3Ideal.main_v2),
    (θ_run Cert.Kernel3Ideal.defs _ _).mono (fun _ h c => ⟨(h c).1.trans (Mem.final3 m c), (h c).2.1.trans (Mem.final4 m c), (h c).2.2⟩)
      (Cert.Kernel3Ideal.Value.run_blocks (F := Ideal) m g),
    (θ_run Cert.Reference3Ideal.defs _ _).mono (fun _ h c =>
        ⟨(h c).1.trans (keys_eq m m' c (hag c).1 (hag c).2.1 (hag c).2.2), (h c).2.1.trans (vals_eq m m' c (hag c).1 (hag c).2.1 (hag c).2.2), (h c).2.2⟩)
      (Cert.Reference3Ideal.Value.run (F := Ideal) m' g')⟩

/-- The frame of the mixer's idealized program. -/
theorem frame_ideal4 : Cert.quiescent_Kernel4Ideal := fun m ρ _ => Mix.frame (F := Ideal) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  frame_kernel, frame_ideal, frame_reference, Half.frame_kernel2, frame_ideal2, frame_reference2, Mem.frame_kernel3, frame_ideal3, frame_reference3,
  Mix.frame_kernel4, frame_ideal4,
  trivial, algebraic, trivial, algebraic2, trivial, algebraic3, trivial⟩

end Cert.Proof

end
